-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainIdeal_finite1 [hPre_finite1 : Cert.Pre_finite1.Facts] (m : (ℓ : Loc Cert.MainIdeal.nD Cert.MainIdeal.τ Cert.MainIdeal.sig) → Buf (Elt Ideal) ℓ) : Prop :=
  ∀ c : Dev Cert.MainIdeal.nD,
    (Cert.Pre_finite1.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7))) = (fun _ => 1#1)

def Pre_MainRefIdeal (m : (ℓ : Loc Cert.MainRefIdeal.nD Cert.MainRefIdeal.τ Cert.MainRefIdeal.sig) → Buf (Elt Ideal) ℓ) : Prop :=
  True

def Pre_MainRefIdeal_finite1 [hPre_finite1 : Cert.Pre_finite1.Facts] (m : (ℓ : Loc Cert.MainRefIdeal.nD Cert.MainRefIdeal.τ Cert.MainRefIdeal.sig) → Buf (Elt Ideal) ℓ) : Prop :=
  ∀ c : Dev Cert.MainRefIdeal.nD,
    (Cert.Pre_finite1.fn (F := Ideal) (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7))) = (fun _ => 1#1)

def Pre_Fine (m : (ℓ : Loc Cert.Fine.nD Cert.Fine.τ Cert.Fine.sig) → Buf (Elt Bits) ℓ) : Prop :=
  True

def Pre_FineIdeal (m : (ℓ : Loc Cert.FineIdeal.nD Cert.FineIdeal.τ Cert.FineIdeal.sig) → Buf (Elt Ideal) ℓ) : Prop :=
  True

def Pre_FineIdeal_selected3 [hPre_selected3 : Cert.Pre_selected3.Facts] (m : (ℓ : Loc Cert.FineIdeal.nD Cert.FineIdeal.τ Cert.FineIdeal.sig) → Buf (Elt Ideal) ℓ) : Prop :=
  ∀ c : Dev Cert.FineIdeal.nD,
    (Cert.Pre_selected3.fn (F := Ideal) (m ((c.tc : Thread Cert.FineIdeal.nD Cert.FineIdeal.τ).loc Cert.FineIdeal.main_arg0)) (m ((c.tc : Thread Cert.FineIdeal.nD Cert.FineIdeal.τ).loc Cert.FineIdeal.main_arg1)) (m ((c.tc : Thread Cert.FineIdeal.nD Cert.FineIdeal.τ).loc Cert.FineIdeal.main_arg2)) (m ((c.tc : Thread Cert.FineIdeal.nD Cert.FineIdeal.τ).loc Cert.FineIdeal.main_arg3)) (m ((c.tc : Thread Cert.FineIdeal.nD Cert.FineIdeal.τ).loc Cert.FineIdeal.main_arg4)) (m ((c.tc : Thread Cert.FineIdeal.nD Cert.FineIdeal.τ).loc Cert.FineIdeal.main_arg5)) (m ((c.tc : Thread Cert.FineIdeal.nD Cert.FineIdeal.τ).loc Cert.FineIdeal.main_arg6)) (m ((c.tc : Thread Cert.FineIdeal.nD Cert.FineIdeal.τ).loc Cert.FineIdeal.main_arg7)) (m ((c.tc : Thread Cert.FineIdeal.nD Cert.FineIdeal.τ).loc Cert.FineIdeal.main_arg8))) = (fun _ => 1#1)

def Pre_FineRefIdeal (m : (ℓ : Loc Cert.FineRefIdeal.nD Cert.FineRefIdeal.τ Cert.FineRefIdeal.sig) → Buf (Elt Ideal) ℓ) : Prop :=
  True

def Pre_FineRefIdeal_selected3 [hPre_selected3 : Cert.Pre_selected3.Facts] (m : (ℓ : Loc Cert.FineRefIdeal.nD Cert.FineRefIdeal.τ Cert.FineRefIdeal.sig) → Buf (Elt Ideal) ℓ) : Prop :=
  ∀ c : Dev Cert.FineRefIdeal.nD,
    (Cert.Pre_selected3.fn (F := Ideal) (m ((c.tc : Thread Cert.FineRefIdeal.nD Cert.FineRefIdeal.τ).loc Cert.FineRefIdeal.main_arg0)) (m ((c.tc : Thread Cert.FineRefIdeal.nD Cert.FineRefIdeal.τ).loc Cert.FineRefIdeal.main_arg1)) (m ((c.tc : Thread Cert.FineRefIdeal.nD Cert.FineRefIdeal.τ).loc Cert.FineRefIdeal.main_arg2)) (m ((c.tc : Thread Cert.FineRefIdeal.nD Cert.FineRefIdeal.τ).loc Cert.FineRefIdeal.main_arg3)) (m ((c.tc : Thread Cert.FineRefIdeal.nD Cert.FineRefIdeal.τ).loc Cert.FineRefIdeal.main_arg4)) (m ((c.tc : Thread Cert.FineRefIdeal.nD Cert.FineRefIdeal.τ).loc Cert.FineRefIdeal.main_arg5)) (m ((c.tc : Thread Cert.FineRefIdeal.nD Cert.FineRefIdeal.τ).loc Cert.FineRefIdeal.main_arg6)) (m ((c.tc : Thread Cert.FineRefIdeal.nD Cert.FineRefIdeal.τ).loc Cert.FineRefIdeal.main_arg7)) (m ((c.tc : Thread Cert.FineRefIdeal.nD Cert.FineRefIdeal.τ).loc Cert.FineRefIdeal.main_arg8))) = (fun _ => 1#1)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ r.2.sem = fun _ => 0)

def quiescent_MainIdeal_pre_finite1 [hMainIdeal : Cert.MainIdeal.Facts] [hPre_finite1 : Cert.Pre_finite1.Facts] : Prop :=
  ∀ (m : (ℓ : Loc Cert.MainIdeal.nD Cert.MainIdeal.τ Cert.MainIdeal.sig) → Buf (Elt Ideal) ℓ) (g : Dev Cert.MainIdeal.nD → PrngReg), Pre_MainIdeal_finite1 m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7))
      ∧ r.2.sem = fun _ => 0)

def quiescent_MainRefIdeal_pre_finite1 [hMainRefIdeal : Cert.MainRefIdeal.Facts] [hPre_finite1 : Cert.Pre_finite1.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal_finite1 m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7))
      ∧ r.2.sem = fun _ => 0)

def quiescent_Fine [hFine : Cert.Fine.Facts] : Prop :=
  ∀ (m : (ℓ : Loc Cert.Fine.nD Cert.Fine.τ Cert.Fine.sig) → Buf (Elt Bits) ℓ) (g : Dev Cert.Fine.nD → PrngReg), Pre_Fine m →
    θ_run (Cert.Fine.defs (F := Bits)) (onTc (τ := Cert.Fine.τ) (Cert.Fine.main (F := Bits))) ⟨m, fun _ => 0, g⟩ (fun r => (∀ c : Dev Cert.Fine.nD,
      r.2.mem ((c.tc : Thread Cert.Fine.nD Cert.Fine.τ).loc Cert.Fine.main_arg0) = m ((c.tc : Thread Cert.Fine.nD Cert.Fine.τ).loc Cert.Fine.main_arg0)
      ∧ r.2.mem ((c.tc : Thread Cert.Fine.nD Cert.Fine.τ).loc Cert.Fine.main_arg1) = m ((c.tc : Thread Cert.Fine.nD Cert.Fine.τ).loc Cert.Fine.main_arg1)
      ∧ r.2.mem ((c.tc : Thread Cert.Fine.nD Cert.Fine.τ).loc Cert.Fine.main_arg2) = m ((c.tc : Thread Cert.Fine.nD Cert.Fine.τ).loc Cert.Fine.main_arg2)
      ∧ r.2.mem ((c.tc : Thread Cert.Fine.nD Cert.Fine.τ).loc Cert.Fine.main_arg3) = m ((c.tc : Thread Cert.Fine.nD Cert.Fine.τ).loc Cert.Fine.main_arg3)
      ∧ r.2.mem ((c.tc : Thread Cert.Fine.nD Cert.Fine.τ).loc Cert.Fine.main_arg4) = m ((c.tc : Thread Cert.Fine.nD Cert.Fine.τ).loc Cert.Fine.main_arg4)
      ∧ r.2.mem ((c.tc : Thread Cert.Fine.nD Cert.Fine.τ).loc Cert.Fine.main_arg5) = m ((c.tc : Thread Cert.Fine.nD Cert.Fine.τ).loc Cert.Fine.main_arg5)
      ∧ r.2.mem ((c.tc : Thread Cert.Fine.nD Cert.Fine.τ).loc Cert.Fine.main_arg6) = m ((c.tc : Thread Cert.Fine.nD Cert.Fine.τ).loc Cert.Fine.main_arg6)
      ∧ r.2.mem ((c.tc : Thread Cert.Fine.nD Cert.Fine.τ).loc Cert.Fine.main_arg7) = m ((c.tc : Thread Cert.Fine.nD Cert.Fine.τ).loc Cert.Fine.main_arg7)
      ∧ r.2.mem ((c.tc : Thread Cert.Fine.nD Cert.Fine.τ).loc Cert.Fine.main_arg8) = m ((c.tc : Thread Cert.Fine.nD Cert.Fine.τ).loc Cert.Fine.main_arg8))
      ∧ r.2.sem = fun _ => 0)

def quiescent_FineIdeal [hFineIdeal : Cert.FineIdeal.Facts] : Prop :=
  ∀ (m : (ℓ : Loc Cert.FineIdeal.nD Cert.FineIdeal.τ Cert.FineIdeal.sig) → Buf (Elt Ideal) ℓ) (g : Dev Cert.FineIdeal.nD → PrngReg), Pre_FineIdeal m →
    θ_run (Cert.FineIdeal.defs (F := Ideal)) (onTc (τ := Cert.FineIdeal.τ) (Cert.FineIdeal.main (F := Ideal))) ⟨m, fun _ => 0, g⟩ (fun r => (∀ c : Dev Cert.FineIdeal.nD,
      r.2.mem ((c.tc : Thread Cert.FineIdeal.nD Cert.FineIdeal.τ).loc Cert.FineIdeal.main_arg0) = m ((c.tc : Thread Cert.FineIdeal.nD Cert.FineIdeal.τ).loc Cert.FineIdeal.main_arg0)
      ∧ r.2.mem ((c.tc : Thread Cert.FineIdeal.nD Cert.FineIdeal.τ).loc Cert.FineIdeal.main_arg1) = m ((c.tc : Thread Cert.FineIdeal.nD Cert.FineIdeal.τ).loc Cert.FineIdeal.main_arg1)
      ∧ r.2.mem ((c.tc : Thread Cert.FineIdeal.nD Cert.FineIdeal.τ).loc Cert.FineIdeal.main_arg2) = m ((c.tc : Thread Cert.FineIdeal.nD Cert.FineIdeal.τ).loc Cert.FineIdeal.main_arg2)
      ∧ r.2.mem ((c.tc : Thread Cert.FineIdeal.nD Cert.FineIdeal.τ).loc Cert.FineIdeal.main_arg3) = m ((c.tc : Thread Cert.FineIdeal.nD Cert.FineIdeal.τ).loc Cert.FineIdeal.main_arg3)
      ∧ r.2.mem ((c.tc : Thread Cert.FineIdeal.nD Cert.FineIdeal.τ).loc Cert.FineIdeal.main_arg4) = m ((c.tc : Thread Cert.FineIdeal.nD Cert.FineIdeal.τ).loc Cert.FineIdeal.main_arg4)
      ∧ r.2.mem ((c.tc : Thread Cert.FineIdeal.nD Cert.FineIdeal.τ).loc Cert.FineIdeal.main_arg5) = m ((c.tc : Thread Cert.FineIdeal.nD Cert.FineIdeal.τ).loc Cert.FineIdeal.main_arg5)
      ∧ r.2.mem ((c.tc : Thread Cert.FineIdeal.nD Cert.FineIdeal.τ).loc Cert.FineIdeal.main_arg6) = m ((c.tc : Thread Cert.FineIdeal.nD Cert.FineIdeal.τ).loc Cert.FineIdeal.main_arg6)
      ∧ r.2.mem ((c.tc : Thread Cert.FineIdeal.nD Cert.FineIdeal.τ).loc Cert.FineIdeal.main_arg7) = m ((c.tc : Thread Cert.FineIdeal.nD Cert.FineIdeal.τ).loc Cert.FineIdeal.main_arg7)
      ∧ r.2.mem ((c.tc : Thread Cert.FineIdeal.nD Cert.FineIdeal.τ).loc Cert.FineIdeal.main_arg8) = m ((c.tc : Thread Cert.FineIdeal.nD Cert.FineIdeal.τ).loc Cert.FineIdeal.main_arg8))
      ∧ r.2.sem = fun _ => 0)

def quiescent_FineIdeal_pre_selected3 [hFineIdeal : Cert.FineIdeal.Facts] [hPre_selected3 : Cert.Pre_selected3.Facts] : Prop :=
  ∀ (m : (ℓ : Loc Cert.FineIdeal.nD Cert.FineIdeal.τ Cert.FineIdeal.sig) → Buf (Elt Ideal) ℓ) (g : Dev Cert.FineIdeal.nD → PrngReg), Pre_FineIdeal_selected3 m →
    θ_run (Cert.FineIdeal.defs (F := Ideal)) (onTc (τ := Cert.FineIdeal.τ) (Cert.FineIdeal.main (F := Ideal))) ⟨m, fun _ => 0, g⟩ (fun r => (∀ c : Dev Cert.FineIdeal.nD,
      r.2.mem ((c.tc : Thread Cert.FineIdeal.nD Cert.FineIdeal.τ).loc Cert.FineIdeal.main_arg0) = m ((c.tc : Thread Cert.FineIdeal.nD Cert.FineIdeal.τ).loc Cert.FineIdeal.main_arg0)
      ∧ r.2.mem ((c.tc : Thread Cert.FineIdeal.nD Cert.FineIdeal.τ).loc Cert.FineIdeal.main_arg1) = m ((c.tc : Thread Cert.FineIdeal.nD Cert.FineIdeal.τ).loc Cert.FineIdeal.main_arg1)
      ∧ r.2.mem ((c.tc : Thread Cert.FineIdeal.nD Cert.FineIdeal.τ).loc Cert.FineIdeal.main_arg2) = m ((c.tc : Thread Cert.FineIdeal.nD Cert.FineIdeal.τ).loc Cert.FineIdeal.main_arg2)
      ∧ r.2.mem ((c.tc : Thread Cert.FineIdeal.nD Cert.FineIdeal.τ).loc Cert.FineIdeal.main_arg3) = m ((c.tc : Thread Cert.FineIdeal.nD Cert.FineIdeal.τ).loc Cert.FineIdeal.main_arg3)
      ∧ r.2.mem ((c.tc : Thread Cert.FineIdeal.nD Cert.FineIdeal.τ).loc Cert.FineIdeal.main_arg4) = m ((c.tc : Thread Cert.FineIdeal.nD Cert.FineIdeal.τ).loc Cert.FineIdeal.main_arg4)
      ∧ r.2.mem ((c.tc : Thread Cert.FineIdeal.nD Cert.FineIdeal.τ).loc Cert.FineIdeal.main_arg5) = m ((c.tc : Thread Cert.FineIdeal.nD Cert.FineIdeal.τ).loc Cert.FineIdeal.main_arg5)
      ∧ r.2.mem ((c.tc : Thread Cert.FineIdeal.nD Cert.FineIdeal.τ).loc Cert.FineIdeal.main_arg6) = m ((c.tc : Thread Cert.FineIdeal.nD Cert.FineIdeal.τ).loc Cert.FineIdeal.main_arg6)
      ∧ r.2.mem ((c.tc : Thread Cert.FineIdeal.nD Cert.FineIdeal.τ).loc Cert.FineIdeal.main_arg7) = m ((c.tc : Thread Cert.FineIdeal.nD Cert.FineIdeal.τ).loc Cert.FineIdeal.main_arg7)
      ∧ r.2.mem ((c.tc : Thread Cert.FineIdeal.nD Cert.FineIdeal.τ).loc Cert.FineIdeal.main_arg8) = m ((c.tc : Thread Cert.FineIdeal.nD Cert.FineIdeal.τ).loc Cert.FineIdeal.main_arg8))
      ∧ r.2.sem = fun _ => 0)

def quiescent_FineRefIdeal [hFineRefIdeal : Cert.FineRefIdeal.Facts] : Prop :=
  ∀ (m : (ℓ : Loc Cert.FineRefIdeal.nD Cert.FineRefIdeal.τ Cert.FineRefIdeal.sig) → Buf (Elt Ideal) ℓ) (g : Dev Cert.FineRefIdeal.nD → PrngReg), Pre_FineRefIdeal m →
    θ_run (Cert.FineRefIdeal.defs (F := Ideal)) (onTc (τ := Cert.FineRefIdeal.τ) (Cert.FineRefIdeal.main (F := Ideal))) ⟨m, fun _ => 0, g⟩ (fun r => (∀ c : Dev Cert.FineRefIdeal.nD,
      r.2.mem ((c.tc : Thread Cert.FineRefIdeal.nD Cert.FineRefIdeal.τ).loc Cert.FineRefIdeal.main_arg0) = m ((c.tc : Thread Cert.FineRefIdeal.nD Cert.FineRefIdeal.τ).loc Cert.FineRefIdeal.main_arg0)
      ∧ r.2.mem ((c.tc : Thread Cert.FineRefIdeal.nD Cert.FineRefIdeal.τ).loc Cert.FineRefIdeal.main_arg1) = m ((c.tc : Thread Cert.FineRefIdeal.nD Cert.FineRefIdeal.τ).loc Cert.FineRefIdeal.main_arg1)
      ∧ r.2.mem ((c.tc : Thread Cert.FineRefIdeal.nD Cert.FineRefIdeal.τ).loc Cert.FineRefIdeal.main_arg2) = m ((c.tc : Thread Cert.FineRefIdeal.nD Cert.FineRefIdeal.τ).loc Cert.FineRefIdeal.main_arg2)
      ∧ r.2.mem ((c.tc : Thread Cert.FineRefIdeal.nD Cert.FineRefIdeal.τ).loc Cert.FineRefIdeal.main_arg3) = m ((c.tc : Thread Cert.FineRefIdeal.nD Cert.FineRefIdeal.τ).loc Cert.FineRefIdeal.main_arg3)
      ∧ r.2.mem ((c.tc : Thread Cert.FineRefIdeal.nD Cert.FineRefIdeal.τ).loc Cert.FineRefIdeal.main_arg4) = m ((c.tc : Thread Cert.FineRefIdeal.nD Cert.FineRefIdeal.τ).loc Cert.FineRefIdeal.main_arg4)
      ∧ r.2.mem ((c.tc : Thread Cert.FineRefIdeal.nD Cert.FineRefIdeal.τ).loc Cert.FineRefIdeal.main_arg5) = m ((c.tc : Thread Cert.FineRefIdeal.nD Cert.FineRefIdeal.τ).loc Cert.FineRefIdeal.main_arg5)
      ∧ r.2.mem ((c.tc : Thread Cert.FineRefIdeal.nD Cert.FineRefIdeal.τ).loc Cert.FineRefIdeal.main_arg6) = m ((c.tc : Thread Cert.FineRefIdeal.nD Cert.FineRefIdeal.τ).loc Cert.FineRefIdeal.main_arg6)
      ∧ r.2.mem ((c.tc : Thread Cert.FineRefIdeal.nD Cert.FineRefIdeal.τ).loc Cert.FineRefIdeal.main_arg7) = m ((c.tc : Thread Cert.FineRefIdeal.nD Cert.FineRefIdeal.τ).loc Cert.FineRefIdeal.main_arg7)
      ∧ r.2.mem ((c.tc : Thread Cert.FineRefIdeal.nD Cert.FineRefIdeal.τ).loc Cert.FineRefIdeal.main_arg8) = m ((c.tc : Thread Cert.FineRefIdeal.nD Cert.FineRefIdeal.τ).loc Cert.FineRefIdeal.main_arg8))
      ∧ r.2.sem = fun _ => 0)

def quiescent_FineRefIdeal_pre_selected3 [hFineRefIdeal : Cert.FineRefIdeal.Facts] [hPre_selected3 : Cert.Pre_selected3.Facts] : Prop :=
  ∀ (m : (ℓ : Loc Cert.FineRefIdeal.nD Cert.FineRefIdeal.τ Cert.FineRefIdeal.sig) → Buf (Elt Ideal) ℓ) (g : Dev Cert.FineRefIdeal.nD → PrngReg), Pre_FineRefIdeal_selected3 m →
    θ_run (Cert.FineRefIdeal.defs (F := Ideal)) (onTc (τ := Cert.FineRefIdeal.τ) (Cert.FineRefIdeal.main (F := Ideal))) ⟨m, fun _ => 0, g⟩ (fun r => (∀ c : Dev Cert.FineRefIdeal.nD,
      r.2.mem ((c.tc : Thread Cert.FineRefIdeal.nD Cert.FineRefIdeal.τ).loc Cert.FineRefIdeal.main_arg0) = m ((c.tc : Thread Cert.FineRefIdeal.nD Cert.FineRefIdeal.τ).loc Cert.FineRefIdeal.main_arg0)
      ∧ r.2.mem ((c.tc : Thread Cert.FineRefIdeal.nD Cert.FineRefIdeal.τ).loc Cert.FineRefIdeal.main_arg1) = m ((c.tc : Thread Cert.FineRefIdeal.nD Cert.FineRefIdeal.τ).loc Cert.FineRefIdeal.main_arg1)
      ∧ r.2.mem ((c.tc : Thread Cert.FineRefIdeal.nD Cert.FineRefIdeal.τ).loc Cert.FineRefIdeal.main_arg2) = m ((c.tc : Thread Cert.FineRefIdeal.nD Cert.FineRefIdeal.τ).loc Cert.FineRefIdeal.main_arg2)
      ∧ r.2.mem ((c.tc : Thread Cert.FineRefIdeal.nD Cert.FineRefIdeal.τ).loc Cert.FineRefIdeal.main_arg3) = m ((c.tc : Thread Cert.FineRefIdeal.nD Cert.FineRefIdeal.τ).loc Cert.FineRefIdeal.main_arg3)
      ∧ r.2.mem ((c.tc : Thread Cert.FineRefIdeal.nD Cert.FineRefIdeal.τ).loc Cert.FineRefIdeal.main_arg4) = m ((c.tc : Thread Cert.FineRefIdeal.nD Cert.FineRefIdeal.τ).loc Cert.FineRefIdeal.main_arg4)
      ∧ r.2.mem ((c.tc : Thread Cert.FineRefIdeal.nD Cert.FineRefIdeal.τ).loc Cert.FineRefIdeal.main_arg5) = m ((c.tc : Thread Cert.FineRefIdeal.nD Cert.FineRefIdeal.τ).loc Cert.FineRefIdeal.main_arg5)
      ∧ r.2.mem ((c.tc : Thread Cert.FineRefIdeal.nD Cert.FineRefIdeal.τ).loc Cert.FineRefIdeal.main_arg6) = m ((c.tc : Thread Cert.FineRefIdeal.nD Cert.FineRefIdeal.τ).loc Cert.FineRefIdeal.main_arg6)
      ∧ r.2.mem ((c.tc : Thread Cert.FineRefIdeal.nD Cert.FineRefIdeal.τ).loc Cert.FineRefIdeal.main_arg7) = m ((c.tc : Thread Cert.FineRefIdeal.nD Cert.FineRefIdeal.τ).loc Cert.FineRefIdeal.main_arg7)
      ∧ r.2.mem ((c.tc : Thread Cert.FineRefIdeal.nD Cert.FineRefIdeal.τ).loc Cert.FineRefIdeal.main_arg8) = m ((c.tc : Thread Cert.FineRefIdeal.nD Cert.FineRefIdeal.τ).loc Cert.FineRefIdeal.main_arg8))
      ∧ r.2.sem = fun _ => 0)

def preserves_Main_MainIdeal : Prop :=
  True

def algebraic_MainIdeal_MainRefIdeal_pre_finite1 [hMainIdeal : Cert.MainIdeal.Facts] [hMainRefIdeal : Cert.MainRefIdeal.Facts] [hPre_finite1 : Cert.Pre_finite1.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal_finite1 m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)
      ∧ m' ((c.tc : Thread Cert.MainRefIdeal.nD Cert.MainRefIdeal.τ).loc Cert.MainRefIdeal.main_arg4) = m ((c.tc : Thread Cert.MainIdeal.nD Cert.MainIdeal.τ).loc Cert.MainIdeal.main_arg4)
      ∧ m' ((c.tc : Thread Cert.MainRefIdeal.nD Cert.MainRefIdeal.τ).loc Cert.MainRefIdeal.main_arg5) = m ((c.tc : Thread Cert.MainIdeal.nD Cert.MainIdeal.τ).loc Cert.MainIdeal.main_arg5)
      ∧ m' ((c.tc : Thread Cert.MainRefIdeal.nD Cert.MainRefIdeal.τ).loc Cert.MainRefIdeal.main_arg6) = m ((c.tc : Thread Cert.MainIdeal.nD Cert.MainIdeal.τ).loc Cert.MainIdeal.main_arg6)
      ∧ m' ((c.tc : Thread Cert.MainRefIdeal.nD Cert.MainRefIdeal.τ).loc Cert.MainRefIdeal.main_arg7) = m ((c.tc : Thread Cert.MainIdeal.nD Cert.MainIdeal.τ).loc Cert.MainIdeal.main_arg7)) →
    ∃ (v0 : (c : Dev Cert.MainIdeal.nD) → Buf (Elt Ideal) ((c.tc : Thread Cert.MainIdeal.nD Cert.MainIdeal.τ).loc Cert.MainIdeal.main_v9_0)) (v1 : (c : Dev Cert.MainIdeal.nD) → Buf (Elt Ideal) ((c.tc : Thread Cert.MainIdeal.nD Cert.MainIdeal.τ).loc Cert.MainIdeal.main_v9_1)) (v2 : (c : Dev Cert.MainIdeal.nD) → Buf (Elt Ideal) ((c.tc : Thread Cert.MainIdeal.nD Cert.MainIdeal.τ).loc Cert.MainIdeal.main_v9_2)) (v3 : (c : Dev Cert.MainIdeal.nD) → Buf (Elt Ideal) ((c.tc : Thread Cert.MainIdeal.nD Cert.MainIdeal.τ).loc Cert.MainIdeal.main_v9_3)) (v4 : (c : Dev Cert.MainIdeal.nD) → Buf (Elt Ideal) ((c.tc : Thread Cert.MainIdeal.nD Cert.MainIdeal.τ).loc Cert.MainIdeal.main_v9_4)) (v5 : (c : Dev Cert.MainIdeal.nD) → Buf (Elt Ideal) ((c.tc : Thread Cert.MainIdeal.nD Cert.MainIdeal.τ).loc Cert.MainIdeal.main_v9_5)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v9_0) = v0 c
          ∧ r.2.mem ((c.tc : Thread Cert.MainIdeal.nD Cert.MainIdeal.τ).loc Cert.MainIdeal.main_v9_1) = v1 c
          ∧ r.2.mem ((c.tc : Thread Cert.MainIdeal.nD Cert.MainIdeal.τ).loc Cert.MainIdeal.main_v9_2) = v2 c
          ∧ r.2.mem ((c.tc : Thread Cert.MainIdeal.nD Cert.MainIdeal.τ).loc Cert.MainIdeal.main_v9_3) = v3 c
          ∧ r.2.mem ((c.tc : Thread Cert.MainIdeal.nD Cert.MainIdeal.τ).loc Cert.MainIdeal.main_v9_4) = v4 c
          ∧ r.2.mem ((c.tc : Thread Cert.MainIdeal.nD Cert.MainIdeal.τ).loc Cert.MainIdeal.main_v9_5) = v5 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v131) = v0 c
          ∧ r.2.mem ((c.tc : Thread Cert.MainRefIdeal.nD Cert.MainRefIdeal.τ).loc Cert.MainRefIdeal.main_v11) = v1 c
          ∧ r.2.mem ((c.tc : Thread Cert.MainRefIdeal.nD Cert.MainRefIdeal.τ).loc Cert.MainRefIdeal.main_v16) = v2 c
          ∧ r.2.mem ((c.tc : Thread Cert.MainRefIdeal.nD Cert.MainRefIdeal.τ).loc Cert.MainRefIdeal.main_v135) = v3 c
          ∧ r.2.mem ((c.tc : Thread Cert.MainRefIdeal.nD Cert.MainRefIdeal.τ).loc Cert.MainRefIdeal.main_v41) = v4 c
          ∧ r.2.mem ((c.tc : Thread Cert.MainRefIdeal.nD Cert.MainRefIdeal.τ).loc Cert.MainRefIdeal.main_v129) = v5 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3)
          ∧ r.2.mem ((c.tc : Thread Cert.MainRefIdeal.nD Cert.MainRefIdeal.τ).loc Cert.MainRefIdeal.main_arg4) = m' ((c.tc : Thread Cert.MainRefIdeal.nD Cert.MainRefIdeal.τ).loc Cert.MainRefIdeal.main_arg4)
          ∧ r.2.mem ((c.tc : Thread Cert.MainRefIdeal.nD Cert.MainRefIdeal.τ).loc Cert.MainRefIdeal.main_arg5) = m' ((c.tc : Thread Cert.MainRefIdeal.nD Cert.MainRefIdeal.τ).loc Cert.MainRefIdeal.main_arg5)
          ∧ r.2.mem ((c.tc : Thread Cert.MainRefIdeal.nD Cert.MainRefIdeal.τ).loc Cert.MainRefIdeal.main_arg6) = m' ((c.tc : Thread Cert.MainRefIdeal.nD Cert.MainRefIdeal.τ).loc Cert.MainRefIdeal.main_arg6)
          ∧ r.2.mem ((c.tc : Thread Cert.MainRefIdeal.nD Cert.MainRefIdeal.τ).loc Cert.MainRefIdeal.main_arg7) = m' ((c.tc : Thread Cert.MainRefIdeal.nD Cert.MainRefIdeal.τ).loc Cert.MainRefIdeal.main_arg7))

def preserves_Fine_FineIdeal : Prop :=
  True

def algebraic_FineIdeal_FineRefIdeal_pre_selected3 [hFineIdeal : Cert.FineIdeal.Facts] [hFineRefIdeal : Cert.FineRefIdeal.Facts] [hPre_selected3 : Cert.Pre_selected3.Facts] : Prop :=
  ∀ (m : (ℓ : Loc Cert.FineIdeal.nD Cert.FineIdeal.τ Cert.FineIdeal.sig) → Buf (Elt Ideal) ℓ) (g : Dev Cert.FineIdeal.nD → PrngReg)
    (m' : (ℓ : Loc Cert.FineRefIdeal.nD Cert.FineRefIdeal.τ Cert.FineRefIdeal.sig) → Buf (Elt Ideal) ℓ) (g' : Dev Cert.FineRefIdeal.nD → PrngReg), Pre_FineIdeal_selected3 m →
    (∀ c : Dev Cert.FineIdeal.nD,
      m' ((c.tc : Thread Cert.FineRefIdeal.nD Cert.FineRefIdeal.τ).loc Cert.FineRefIdeal.main_arg0) = m ((c.tc : Thread Cert.FineIdeal.nD Cert.FineIdeal.τ).loc Cert.FineIdeal.main_arg0)
      ∧ m' ((c.tc : Thread Cert.FineRefIdeal.nD Cert.FineRefIdeal.τ).loc Cert.FineRefIdeal.main_arg1) = m ((c.tc : Thread Cert.FineIdeal.nD Cert.FineIdeal.τ).loc Cert.FineIdeal.main_arg1)
      ∧ m' ((c.tc : Thread Cert.FineRefIdeal.nD Cert.FineRefIdeal.τ).loc Cert.FineRefIdeal.main_arg2) = m ((c.tc : Thread Cert.FineIdeal.nD Cert.FineIdeal.τ).loc Cert.FineIdeal.main_arg2)
      ∧ m' ((c.tc : Thread Cert.FineRefIdeal.nD Cert.FineRefIdeal.τ).loc Cert.FineRefIdeal.main_arg3) = m ((c.tc : Thread Cert.FineIdeal.nD Cert.FineIdeal.τ).loc Cert.FineIdeal.main_arg3)
      ∧ m' ((c.tc : Thread Cert.FineRefIdeal.nD Cert.FineRefIdeal.τ).loc Cert.FineRefIdeal.main_arg4) = m ((c.tc : Thread Cert.FineIdeal.nD Cert.FineIdeal.τ).loc Cert.FineIdeal.main_arg4)
      ∧ m' ((c.tc : Thread Cert.FineRefIdeal.nD Cert.FineRefIdeal.τ).loc Cert.FineRefIdeal.main_arg5) = m ((c.tc : Thread Cert.FineIdeal.nD Cert.FineIdeal.τ).loc Cert.FineIdeal.main_arg5)
      ∧ m' ((c.tc : Thread Cert.FineRefIdeal.nD Cert.FineRefIdeal.τ).loc Cert.FineRefIdeal.main_arg6) = m ((c.tc : Thread Cert.FineIdeal.nD Cert.FineIdeal.τ).loc Cert.FineIdeal.main_arg6)
      ∧ m' ((c.tc : Thread Cert.FineRefIdeal.nD Cert.FineRefIdeal.τ).loc Cert.FineRefIdeal.main_arg7) = m ((c.tc : Thread Cert.FineIdeal.nD Cert.FineIdeal.τ).loc Cert.FineIdeal.main_arg7)
      ∧ m' ((c.tc : Thread Cert.FineRefIdeal.nD Cert.FineRefIdeal.τ).loc Cert.FineRefIdeal.main_arg8) = m ((c.tc : Thread Cert.FineIdeal.nD Cert.FineIdeal.τ).loc Cert.FineIdeal.main_arg8)) →
    ∃ (v0 : (c : Dev Cert.FineIdeal.nD) → Buf (Elt Ideal) ((c.tc : Thread Cert.FineIdeal.nD Cert.FineIdeal.τ).loc Cert.FineIdeal.main_v28)),
      θ_run (Cert.FineIdeal.defs (F := Ideal)) (onTc (τ := Cert.FineIdeal.τ) (Cert.FineIdeal.main (F := Ideal))) ⟨m, fun _ => 0, g⟩ (fun r => ∀ c : Dev Cert.FineIdeal.nD,
          r.2.mem ((c.tc : Thread Cert.FineIdeal.nD Cert.FineIdeal.τ).loc Cert.FineIdeal.main_v28) = v0 c
          ∧ r.2.mem ((c.tc : Thread Cert.FineIdeal.nD Cert.FineIdeal.τ).loc Cert.FineIdeal.main_arg0) = m ((c.tc : Thread Cert.FineIdeal.nD Cert.FineIdeal.τ).loc Cert.FineIdeal.main_arg0)
          ∧ r.2.mem ((c.tc : Thread Cert.FineIdeal.nD Cert.FineIdeal.τ).loc Cert.FineIdeal.main_arg1) = m ((c.tc : Thread Cert.FineIdeal.nD Cert.FineIdeal.τ).loc Cert.FineIdeal.main_arg1)
          ∧ r.2.mem ((c.tc : Thread Cert.FineIdeal.nD Cert.FineIdeal.τ).loc Cert.FineIdeal.main_arg2) = m ((c.tc : Thread Cert.FineIdeal.nD Cert.FineIdeal.τ).loc Cert.FineIdeal.main_arg2)
          ∧ r.2.mem ((c.tc : Thread Cert.FineIdeal.nD Cert.FineIdeal.τ).loc Cert.FineIdeal.main_arg3) = m ((c.tc : Thread Cert.FineIdeal.nD Cert.FineIdeal.τ).loc Cert.FineIdeal.main_arg3)
          ∧ r.2.mem ((c.tc : Thread Cert.FineIdeal.nD Cert.FineIdeal.τ).loc Cert.FineIdeal.main_arg4) = m ((c.tc : Thread Cert.FineIdeal.nD Cert.FineIdeal.τ).loc Cert.FineIdeal.main_arg4)
          ∧ r.2.mem ((c.tc : Thread Cert.FineIdeal.nD Cert.FineIdeal.τ).loc Cert.FineIdeal.main_arg5) = m ((c.tc : Thread Cert.FineIdeal.nD Cert.FineIdeal.τ).loc Cert.FineIdeal.main_arg5)
          ∧ r.2.mem ((c.tc : Thread Cert.FineIdeal.nD Cert.FineIdeal.τ).loc Cert.FineIdeal.main_arg6) = m ((c.tc : Thread Cert.FineIdeal.nD Cert.FineIdeal.τ).loc Cert.FineIdeal.main_arg6)
          ∧ r.2.mem ((c.tc : Thread Cert.FineIdeal.nD Cert.FineIdeal.τ).loc Cert.FineIdeal.main_arg7) = m ((c.tc : Thread Cert.FineIdeal.nD Cert.FineIdeal.τ).loc Cert.FineIdeal.main_arg7)
          ∧ r.2.mem ((c.tc : Thread Cert.FineIdeal.nD Cert.FineIdeal.τ).loc Cert.FineIdeal.main_arg8) = m ((c.tc : Thread Cert.FineIdeal.nD Cert.FineIdeal.τ).loc Cert.FineIdeal.main_arg8))
      ∧ θ_run (Cert.FineRefIdeal.defs (F := Ideal)) (onTc (τ := Cert.FineRefIdeal.τ) (Cert.FineRefIdeal.main (F := Ideal))) ⟨m', fun _ => 0, g'⟩ (fun r => ∀ c : Dev Cert.FineRefIdeal.nD,
          r.2.mem ((c.tc : Thread Cert.FineRefIdeal.nD Cert.FineRefIdeal.τ).loc Cert.FineRefIdeal.main_v46) = v0 c
          ∧ r.2.mem ((c.tc : Thread Cert.FineRefIdeal.nD Cert.FineRefIdeal.τ).loc Cert.FineRefIdeal.main_arg0) = m' ((c.tc : Thread Cert.FineRefIdeal.nD Cert.FineRefIdeal.τ).loc Cert.FineRefIdeal.main_arg0)
          ∧ r.2.mem ((c.tc : Thread Cert.FineRefIdeal.nD Cert.FineRefIdeal.τ).loc Cert.FineRefIdeal.main_arg1) = m' ((c.tc : Thread Cert.FineRefIdeal.nD Cert.FineRefIdeal.τ).loc Cert.FineRefIdeal.main_arg1)
          ∧ r.2.mem ((c.tc : Thread Cert.FineRefIdeal.nD Cert.FineRefIdeal.τ).loc Cert.FineRefIdeal.main_arg2) = m' ((c.tc : Thread Cert.FineRefIdeal.nD Cert.FineRefIdeal.τ).loc Cert.FineRefIdeal.main_arg2)
          ∧ r.2.mem ((c.tc : Thread Cert.FineRefIdeal.nD Cert.FineRefIdeal.τ).loc Cert.FineRefIdeal.main_arg3) = m' ((c.tc : Thread Cert.FineRefIdeal.nD Cert.FineRefIdeal.τ).loc Cert.FineRefIdeal.main_arg3)
          ∧ r.2.mem ((c.tc : Thread Cert.FineRefIdeal.nD Cert.FineRefIdeal.τ).loc Cert.FineRefIdeal.main_arg4) = m' ((c.tc : Thread Cert.FineRefIdeal.nD Cert.FineRefIdeal.τ).loc Cert.FineRefIdeal.main_arg4)
          ∧ r.2.mem ((c.tc : Thread Cert.FineRefIdeal.nD Cert.FineRefIdeal.τ).loc Cert.FineRefIdeal.main_arg5) = m' ((c.tc : Thread Cert.FineRefIdeal.nD Cert.FineRefIdeal.τ).loc Cert.FineRefIdeal.main_arg5)
          ∧ r.2.mem ((c.tc : Thread Cert.FineRefIdeal.nD Cert.FineRefIdeal.τ).loc Cert.FineRefIdeal.main_arg6) = m' ((c.tc : Thread Cert.FineRefIdeal.nD Cert.FineRefIdeal.τ).loc Cert.FineRefIdeal.main_arg6)
          ∧ r.2.mem ((c.tc : Thread Cert.FineRefIdeal.nD Cert.FineRefIdeal.τ).loc Cert.FineRefIdeal.main_arg7) = m' ((c.tc : Thread Cert.FineRefIdeal.nD Cert.FineRefIdeal.τ).loc Cert.FineRefIdeal.main_arg7)
          ∧ r.2.mem ((c.tc : Thread Cert.FineRefIdeal.nD Cert.FineRefIdeal.τ).loc Cert.FineRefIdeal.main_arg8) = m' ((c.tc : Thread Cert.FineRefIdeal.nD Cert.FineRefIdeal.τ).loc Cert.FineRefIdeal.main_arg8))

def Claim : Prop :=
  ∃ (hMain : Cert.Main.Facts) (hMainIdeal : Cert.MainIdeal.Facts) (hMainRefIdeal : Cert.MainRefIdeal.Facts) (hFine : Cert.Fine.Facts) (hFineIdeal : Cert.FineIdeal.Facts) (hFineRefIdeal : Cert.FineRefIdeal.Facts) (hPre_finite1 : Cert.Pre_finite1.Facts) (hPre_selected3 : Cert.Pre_selected3.Facts),
    quiescent_Main (hMain := hMain)
    ∧ quiescent_MainIdeal (hMainIdeal := hMainIdeal)
    ∧ quiescent_MainIdeal_pre_finite1 (hMainIdeal := hMainIdeal) (hPre_finite1 := hPre_finite1)
    ∧ quiescent_MainRefIdeal (hMainRefIdeal := hMainRefIdeal)
    ∧ quiescent_MainRefIdeal_pre_finite1 (hMainRefIdeal := hMainRefIdeal) (hPre_finite1 := hPre_finite1)
    ∧ quiescent_Fine (hFine := hFine)
    ∧ quiescent_FineIdeal (hFineIdeal := hFineIdeal)
    ∧ quiescent_FineIdeal_pre_selected3 (hFineIdeal := hFineIdeal) (hPre_selected3 := hPre_selected3)
    ∧ quiescent_FineRefIdeal (hFineRefIdeal := hFineRefIdeal)
    ∧ quiescent_FineRefIdeal_pre_selected3 (hFineRefIdeal := hFineRefIdeal) (hPre_selected3 := hPre_selected3)
    ∧ preserves_Main_MainIdeal
    ∧ algebraic_MainIdeal_MainRefIdeal_pre_finite1 (hMainIdeal := hMainIdeal) (hMainRefIdeal := hMainRefIdeal) (hPre_finite1 := hPre_finite1)
    ∧ preserves_Fine_FineIdeal
    ∧ algebraic_FineIdeal_FineRefIdeal_pre_selected3 (hFineIdeal := hFineIdeal) (hFineRefIdeal := hFineRefIdeal) (hPre_selected3 := hPre_selected3)
-- ==== Pre_finite1.lean ====
abbrev S2x256x64x64 : Shape := ⟨4, ![2, 256, 64, 64]⟩
abbrev S2x256x32x32 : Shape := ⟨4, ![2, 256, 32, 32]⟩
abbrev S256x256x1x1 : Shape := ⟨4, ![256, 256, 1, 1]⟩
abbrev S256 : Shape := ⟨1, ![256]⟩
abbrev S512x256x1x1 : Shape := ⟨4, ![512, 256, 1, 1]⟩
abbrev S512 : Shape := ⟨1, ![512]⟩
abbrev S256x1x7x7 : Shape := ⟨4, ![256, 1, 7, 7]⟩
abbrev S_ : Shape := ⟨0, ![]⟩

class Facts : Prop where
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  h_S_ : 0 < S_.numel
  bcast_S_S2x256x32x32 : S_.BroadcastsInDim S2x256x32x32 (![] : Fin 0 → Fin S2x256x32x32.rank)
  reducesTo_S2x256x32x32_S_d0_1_2_3 : S2x256x32x32.ReducesTo [0, 1, 2, 3] S_
  bcast_S_S256x256x1x1 : S_.BroadcastsInDim S256x256x1x1 (![] : Fin 0 → Fin S256x256x1x1.rank)
  reducesTo_S256x256x1x1_S_d0_1_2_3 : S256x256x1x1.ReducesTo [0, 1, 2, 3] S_
  bcast_S_S256 : S_.BroadcastsInDim S256 (![] : Fin 0 → Fin S256.rank)
  reducesTo_S256_S_d0 : S256.ReducesTo [0] S_
  bcast_S_S512x256x1x1 : S_.BroadcastsInDim S512x256x1x1 (![] : Fin 0 → Fin S512x256x1x1.rank)
  reducesTo_S512x256x1x1_S_d0_1_2_3 : S512x256x1x1.ReducesTo [0, 1, 2, 3] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x256x1x1 .f32) (main_arg5 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256x1x1 .f32 := Host.absf main_arg4
  let main_cst_6 : FVec F S_ .f32 := constant S_ .f32 0x7F800000#32
  let main_v20 : FVec F S512x256x1x1 .f32 := broadcastInDim S512x256x1x1 ![] bcast_S_S512x256x1x1 main_cst_6
  let main_v21 : IVec S512x256x1x1 1 := cmpf .olt main_v19 main_v20
  let main_c_7 : IVec S_ 1 := constantI S_ 1 1#1
  let main_v22 : IVec S_ 1 := (fun x v => Host.reduce IntOp.andi x v reducesTo_S512x256x1x1_S_d0_1_2_3 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S2x256x64x64 .f32) (main_arg1 : FVec F S2x256x32x32 .f32) (main_arg2 : FVec F S256x256x1x1 .f32) (main_arg3 : FVec F S256 .f32) (main_arg4 : FVec F S512x256x1x1 .f32) (main_arg5 : FVec F S512 .f32) (main_arg6 : FVec F S256x1x7x7 .f32) (main_arg7 : FVec F S256 .f32) : IVec S_ 1 :=
  let main_v0 : FVec F S2x256x64x64 .f32 := Host.absf main_arg0
  let main_cst : FVec F S_ .f32 := constant S_ .f32 0x7F800000#32
  let main_v1 : FVec F S2x256x64x64 .f32 := broadcastInDim S2x256x64x64 ![] bcast_S_S2x256x64x64 main_cst
  let main_v2 : IVec S2x256x64x64 1 := cmpf .olt main_v0 main_v1
  let main_c : IVec S_ 1 := constantI S_ 1 1#1
  let main_v3 : IVec S_ 1 := (fun x v => Host.reduce IntOp.andi x v reducesTo_S2x256x64x64_S_d0_1_2_3 h_S_) main_v2 main_c
  let main_v4 : FVec F S2x256x32x32 .f32 := Host.absf main_arg1
  let main_cst_0 : FVec F S_ .f32 := constant S_ .f32 0x7F800000#32
  let main_v5 : FVec F S2x256x32x32 .f32 := broadcastInDim S2x256x32x32 ![] bcast_S_S2x256x32x32 main_cst_0
  let main_v6 : IVec S2x256x32x32 1 := cmpf .olt main_v4 main_v5
  let main_c_1 : IVec S_ 1 := constantI S_ 1 1#1
  let main_v7 : IVec S_ 1 := (fun x v => Host.reduce IntOp.andi x v reducesTo_S2x256x32x32_S_d0_1_2_3 h_S_) main_v6 main_c_1
  let main_v8 : IVec S_ 1 := andi main_v3 main_v7
  let main_v9 : FVec F S256x256x1x1 .f32 := Host.absf main_arg2
  let main_cst_2 : FVec F S_ .f32 := constant S_ .f32 0x7F800000#32
  let main_v10 : FVec F S256x256x1x1 .f32 := broadcastInDim S256x256x1x1 ![] bcast_S_S256x256x1x1 main_cst_2
  let main_v11 : IVec S256x256x1x1 1 := cmpf .olt main_v9 main_v10
  let main_c_3 : IVec S_ 1 := constantI S_ 1 1#1
  let main_v12 : IVec S_ 1 := (fun x v => Host.reduce IntOp.andi x v reducesTo_S256x256x1x1_S_d0_1_2_3 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Pre_selected3.lean ====
abbrev S2x4096x256 : Shape := ⟨3, ![2, 4096, 256]⟩
abbrev S2x128x256 : Shape := ⟨3, ![2, 128, 256]⟩
abbrev S32x64 : Shape := ⟨2, ![32, 64]⟩
abbrev S32 : Shape := ⟨1, ![32]⟩
abbrev S256x256x1x1 : Shape := ⟨4, ![256, 256, 1, 1]⟩
abbrev S256 : Shape := ⟨1, ![256]⟩
abbrev S_ : Shape := ⟨0, ![]⟩
abbrev S8 : Shape := ⟨1, ![8]⟩
abbrev S1x8x1x1x1 : Shape := ⟨5, ![1, 8, 1, 1, 1]⟩
abbrev S1x1x1x8x1 : Shape := ⟨5, ![1, 1, 1, 8, 1]⟩
abbrev S1x8x1x8x1 : Shape := ⟨5, ![1, 8, 1, 8, 1]⟩
abbrev S2x8x16x8x32 : Shape := ⟨5, ![2, 8, 16, 8, 32]⟩

class Facts : Prop where
  bcast_S_S2x4096x256 : S_.BroadcastsInDim S2x4096x256 (![] : Fin 0 → Fin S2x4096x256.rank)
  reducesTo_S2x4096x256_S_d0_1_2 : S2x4096x256.ReducesTo [0, 1, 2] S_
  h_S_ : 0 < S_.numel
  bcast_S8_S1x8x1x1x1_1 : S8.BroadcastsInDim S1x8x1x1x1 (![1] : Fin 1 → Fin S1x8x1x1x1.rank)
  bcast_S8_S1x1x1x8x1_3 : S8.BroadcastsInDim S1x1x1x8x1 (![3] : Fin 1 → Fin S1x1x1x8x1.rank)
  bcast_S1x8x1x1x1_S1x8x1x8x1_0_1_2_3_4 : S1x8x1x1x1.BroadcastsInDim S1x8x1x8x1 (![0, 1, 2, 3, 4] : Fin 5 → Fin S1x8x1x8x1.rank)
  bcast_S1x1x1x8x1_S1x8x1x8x1_0_1_2_3_4 : S1x1x1x8x1.BroadcastsInDim S1x8x1x8x1 (![0, 1, 2, 3, 4] : Fin 5 → Fin S1x8x1x8x1.rank)
  bcast_S_S2x128x256 : S_.BroadcastsInDim S2x128x256 (![] : Fin 0 → Fin S2x128x256.rank)
  reducesTo_S2x128x256_S_d0_1_2 : S2x128x256.ReducesTo [0, 1, 2] S_
  shapeCasts_S2x128x256_S2x8x16x8x32 : S2x128x256.ShapeCasts S2x8x16x8x32
  bcast_S_S2x8x16x8x32 : S_.BroadcastsInDim S2x8x16x8x32 (![] : Fin 0 → Fin S2x8x16x8x32.rank)
  bcast_S1x8x1x8x1_S2x8x16x8x32_0_1_2_3_4 : S1x8x1x8x1.BroadcastsInDim S2x8x16x8x32 (![0, 1, 2, 3, 4] : Fin 5 → Fin S2x8x16x8x32.rank)
  reducesTo_S2x8x16x8x32_S_d0_1_2_3_4 : S2x8x16x8x32.ReducesTo [0, 1, 2, 3, 4] S_

variable [Facts]

def fn_part1 {F : FTy → Type} [FloatOps F] (main_arg4 : FVec F S2x128x256 .f32) (main_v9 : IVec S1x8x1x8x1 1) (main_v14 : IVec S_ 1) (main_v17 : IVec S2x8x16x8x32 1) (main_v18 : IVec S2x8x16x8x32 1) : IVec S_ 1 :=
  let main_v19 : IVec S2x8x16x8x32 1 := ori main_v18 main_v17
  let main_c_3 : IVec S_ 1 := constantI S_ 1 1#1
  let main_v20 : IVec S_ 1 := (fun x v => Host.reduce IntOp.andi x v reducesTo_S2x8x16x8x32_S_d0_1_2_3_4 h_S_) main_v19 main_c_3
  let main_v21 : IVec S_ 1 := andi main_v14 main_v20
  let main_v22 : FVec F S2x128x256 .f32 := Host.absf main_arg4
  let main_cst_4 : FVec F S_ .f32 := constant S_ .f32 0x7F800000#32
  let main_v23 : FVec F S2x128x256 .f32 := broadcastInDim S2x128x256 ![] bcast_S_S2x128x256 main_cst_4
  let main_v24 : IVec S2x128x256 1 := cmpf .olt main_v22 main_v23
  let main_c_5 : IVec S_ 1 := constantI S_ 1 1#1
  let main_v25 : IVec S_ 1 := (fun x v => Host.reduce IntOp.andi x v reducesTo_S2x128x256_S_d0_1_2 h_S_) main_v24 main_c_5
  let main_v26 : IVec S_ 1 := andi main_v21 main_v25
  let main_v27 : FVec F S2x8x16x8x32 .f32 := shapeCast S2x8x16x8x32 main_arg4 shapeCasts_S2x128x256_S2x8x16x8x32
  let main_cst_6 : FVec F S_ .f32 := constant S_ .f32 0x00000000#32
  let main_v28 : FVec F S2x8x16x8x32 .f32 := broadcastInDim S2x8x16x8x32 ![] bcast_S_S2x8x16x8x32 main_cst_6
  let main_v29 : IVec S2x8x16x8x32 1 := cmpf .oeq main_v27 main_v28
  let main_v30 : IVec S2x8x16x8x32 1 := broadcastInDim S2x8x16x8x32 ![0, 1, 2, 3, 4] bcast_S1x8x1x8x1_S2x8x16x8x32_0_1_2_3_4 main_v9
  let main_v31 : IVec S2x8x16x8x32 1 := ori main_v30 main_v29
  let main_c_7 : IVec S_ 1 := constantI S_ 1 1#1
  let main_v32 : IVec S_ 1 := (fun x v => Host.reduce IntOp.andi x v reducesTo_S2x8x16x8x32_S_d0_1_2_3_4 h_S_) main_v31 main_c_7
  let main_v33 : IVec S_ 1 := andi main_v26 main_v32
  main_v33

def fn {F : FTy → Type} [FloatOps F] (main_arg0 : FVec F S2x4096x256 .f32) (main_arg1 : FVec F S2x4096x256 .f32) (main_arg2 : FVec F S2x4096x256 .f32) (main_arg3 : FVec F S2x128x256 .f32) (main_arg4 : FVec F S2x128x256 .f32) (main_arg5 : FVec F S32x64 .f32) (main_arg6 : FVec F S32 .f32) (main_arg7 : FVec F S256x256x1x1 .f32) (main_arg8 : FVec F S256 .f32) : IVec S_ 1 :=
  let main_v0 : FVec F S2x4096x256 .f32 := Host.absf main_arg0
  let main_cst : FVec F S_ .f32 := constant S_ .f32 0x7F800000#32
  let main_v1 : FVec F S2x4096x256 .f32 := broadcastInDim S2x4096x256 ![] bcast_S_S2x4096x256 main_cst
  let main_v2 : IVec S2x4096x256 1 := cmpf .olt main_v0 main_v1
  let main_c : IVec S_ 1 := constantI S_ 1 1#1
  let main_v3 : IVec S_ 1 := (fun x v => Host.reduce IntOp.andi x v reducesTo_S2x4096x256_S_d0_1_2 h_S_) main_v2 main_c
  let main_v4 : IVec S8 32 := iotaInDim S8 32 0
  let main_v5 : IVec S1x8x1x1x1 32 := broadcastInDim S1x8x1x1x1 ![1] bcast_S8_S1x8x1x1x1_1 main_v4
  let main_v6 : IVec S1x1x1x8x1 32 := broadcastInDim S1x1x1x8x1 ![3] bcast_S8_S1x1x1x8x1_3 main_v4
  let main_v7 : IVec S1x8x1x8x1 32 := broadcastInDim S1x8x1x8x1 ![0, 1, 2, 3, 4] bcast_S1x8x1x1x1_S1x8x1x8x1_0_1_2_3_4 main_v5
  let main_v8 : IVec S1x8x1x8x1 32 := broadcastInDim S1x8x1x8x1 ![0, 1, 2, 3, 4] bcast_S1x1x1x8x1_S1x8x1x8x1_0_1_2_3_4 main_v6
  let main_v9 : IVec S1x8x1x8x1 1 := cmpi .eq main_v7 main_v8
  let main_v10 : FVec F S2x128x256 .f32 := Host.absf main_arg3
  let main_cst_0 : FVec F S_ .f32 := constant S_ .f32 0x7F800000#32
  let main_v11 : FVec F S2x128x256 .f32 := broadcastInDim S2x128x256 ![] bcast_S_S2x128x256 main_cst_0
  let main_v12 : IVec S2x128x256 1 := cmpf .olt main_v10 main_v11
  let main_c_1 : IVec S_ 1 := constantI S_ 1 1#1
  let main_v13 : IVec S_ 1 := (fun x v => Host.reduce IntOp.andi x v reducesTo_S2x128x256_S_d0_1_2 h_S_) main_v12 main_c_1
  let main_v14 : IVec S_ 1 := andi main_v3 main_v13
  let main_v15 : FVec F S2x8x16x8x32 .f32 := shapeCast S2x8x16x8x32 main_arg3 shapeCasts_S2x128x256_S2x8x16x8x32
  let main_cst_2 : FVec F S_ .f32 := constant S_ .f32 0x00000000#32
  let main_v16 : FVec F S2x8x16x8x32 .f32 := broadcastInDim S2x8x16x8x32 ![] bcast_S_S2x8x16x8x32 main_cst_2
  let main_v17 : IVec S2x8x16x8x32 1 := cmpf .oeq main_v15 main_v16
  let main_v18 : IVec S2x8x16x8x32 1 := broadcastInDim S2x8x16x8x32 ![0, 1, 2, 3, 4] bcast_S1x8x1x8x1_S2x8x16x8x32_0_1_2_3_4 main_v9
  fn_part1 (F := F) main_arg4 main_v9 main_v14 main_v17 main_v18
-- ==== Main.lean ====
abbrev S2x256x64x64 : Shape := ⟨4, ![2, 256, 64, 64]⟩
abbrev S2x256x32x32 : Shape := ⟨4, ![2, 256, 32, 32]⟩
abbrev S256x256x1x1 : Shape := ⟨4, ![256, 256, 1, 1]⟩
abbrev S256 : Shape := ⟨1, ![256]⟩
abbrev S512x256x1x1 : Shape := ⟨4, ![512, 256, 1, 1]⟩
abbrev S512 : Shape := ⟨1, ![512]⟩
abbrev S256x1x7x7 : Shape := ⟨4, ![256, 1, 7, 7]⟩
abbrev S2x256x4096 : Shape := ⟨3, ![2, 256, 4096]⟩
abbrev S2x256x1024 : Shape := ⟨3, ![2, 256, 1024]⟩
abbrev S256x256 : Shape := ⟨2, ![256, 256]⟩
abbrev S512x256 : Shape := ⟨2, ![512, 256]⟩
abbrev S256x49 : Shape := ⟨2, ![256, 49]⟩
abbrev S49x256 : Shape := ⟨2, ![49, 256]⟩
abbrev S1x256 : Shape := ⟨2, ![1, 256]⟩
abbrev S1x512 : Shape := ⟨2, ![1, 512]⟩
abbrev S2x4096x256 : Shape := ⟨3, ![2, 4096, 256]⟩
abbrev S2x4096x512 : Shape := ⟨3, ![2, 4096, 512]⟩
abbrev S2x1024x512 : Shape := ⟨3, ![2, 1024, 512]⟩
abbrev S2x1x256 : Shape := ⟨3, ![2, 1, 256]⟩
abbrev S1x256x1024 : Shape := ⟨3, ![1, 256, 1024]⟩
abbrev S1x1024x256 : Shape := ⟨3, ![1, 1024, 256]⟩
abbrev S1x1024x512 : Shape := ⟨3, ![1, 1024, 512]⟩
abbrev S1x1x256 : Shape := ⟨3, ![1, 1, 256]⟩
abbrev S1x4096x256 : Shape := ⟨3, ![1, 4096, 256]⟩
abbrev S256x1024 : Shape := ⟨2, ![256, 1024]⟩
abbrev S1024x256 : Shape := ⟨2, ![1024, 256]⟩
abbrev S1024x512 : Shape := ⟨2, ![1024, 512]⟩
abbrev S1024x32 : Shape := ⟨2, ![1024, 32]⟩
abbrev S32x32x32 : Shape := ⟨3, ![32, 32, 32]⟩
abbrev S32x32x256 : Shape := ⟨3, ![32, 32, 256]⟩
abbrev S3x32x256 : Shape := ⟨3, ![3, 32, 256]⟩
abbrev S35x32x256 : Shape := ⟨3, ![35, 32, 256]⟩
abbrev S5x32x256 : Shape := ⟨3, ![5, 32, 256]⟩
abbrev S40x32x256 : Shape := ⟨3, ![40, 32, 256]⟩
abbrev S40x3x256 : Shape := ⟨3, ![40, 3, 256]⟩
abbrev S40x35x256 : Shape := ⟨3, ![40, 35, 256]⟩
abbrev S40x5x256 : Shape := ⟨3, ![40, 5, 256]⟩
abbrev S40x40x256 : Shape := ⟨3, ![40, 40, 256]⟩
abbrev S1x32x256 : Shape := ⟨3, ![1, 32, 256]⟩
abbrev S31x32x256 : Shape := ⟨3, ![31, 32, 256]⟩
abbrev S32x1x32x256 : Shape := ⟨4, ![32, 1, 32, 256]⟩
abbrev S32x2x32x256 : Shape := ⟨4, ![32, 2, 32, 256]⟩
abbrev S64x32x256 : Shape := ⟨3, ![64, 32, 256]⟩
abbrev S64x1x256 : Shape := ⟨3, ![64, 1, 256]⟩
abbrev S64x31x256 : Shape := ⟨3, ![64, 31, 256]⟩
abbrev S64x32x1x256 : Shape := ⟨4, ![64, 32, 1, 256]⟩
abbrev S64x32x2x256 : Shape := ⟨4, ![64, 32, 2, 256]⟩
abbrev S4096x256 : Shape := ⟨2, ![4096, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 23
  | .vmem => 22
  | .smem => 0
  | _ => 0

abbrev bufTy : (tb : Table) → Fin (tcTables nBuf tb) → BufTy
  | .hbm, ⟨0, _⟩ => ⟨S2x256x64x64, .f32⟩
  | .hbm, ⟨1, _⟩ => ⟨S2x256x32x32, .f32⟩
  | .hbm, ⟨2, _⟩ => ⟨S256x256x1x1, .f32⟩
  | .hbm, ⟨3, _⟩ => ⟨S256, .f32⟩
  | .hbm, ⟨4, _⟩ => ⟨S512x256x1x1, .f32⟩
  | .hbm, ⟨5, _⟩ => ⟨S512, .f32⟩
  | .hbm, ⟨6, _⟩ => ⟨S256x1x7x7, .f32⟩
  | .hbm, ⟨7, _⟩ => ⟨S256, .f32⟩
  | .hbm, ⟨8, _⟩ => ⟨S2x256x4096, .f32⟩
  | .hbm, ⟨9, _⟩ => ⟨S2x256x1024, .f32⟩
  | .hbm, ⟨10, _⟩ => ⟨S256x256, .f32⟩
  | .hbm, ⟨11, _⟩ => ⟨S512x256, .f32⟩
  | .hbm, ⟨12, _⟩ => ⟨S256x49, .f32⟩
  | .hbm, ⟨13, _⟩ => ⟨S49x256, .f32⟩
  | .hbm, ⟨14, _⟩ => ⟨S1x256, .f32⟩
  | .hbm, ⟨15, _⟩ => ⟨S1x512, .f32⟩
  | .hbm, ⟨16, _⟩ => ⟨S1x256, .f32⟩
  | .hbm, ⟨17, _⟩ => ⟨S2x4096x256, .f32⟩
  | .hbm, ⟨18, _⟩ => ⟨S2x4096x512, .f32⟩
  | .hbm, ⟨19, _⟩ => ⟨S2x1024x512, .f32⟩
  | .hbm, ⟨20, _⟩ => ⟨S2x1x256, .f32⟩
  | .hbm, ⟨21, _⟩ => ⟨S2x4096x256, .f32⟩
  | .hbm, ⟨22, _⟩ => ⟨S2x4096x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x256, .f32⟩
  | .local _ .vmem, ⟨5, _⟩ => ⟨S512x256, .f32⟩
  | .local _ .vmem, ⟨6, _⟩ => ⟨S1x256, .f32⟩
  | .local _ .vmem, ⟨7, _⟩ => ⟨S1x512, .f32⟩
  | .local _ .vmem, ⟨8, _⟩ => ⟨S49x256, .f32⟩
  | .local _ .vmem, ⟨9, _⟩ => ⟨S1x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1x256, .f32⟩
  | .local _ .vmem, ⟨17, _⟩ => ⟨S1x1x256, .f32⟩
  | .local _ .vmem, ⟨18, _⟩ => ⟨S1x1024x256, .f32⟩
  | .local _ .vmem, ⟨19, _⟩ => ⟨S1x1024x256, .f32⟩
  | .local _ .vmem, ⟨20, _⟩ => ⟨S1x4096x256, .f32⟩
  | .local _ .vmem, ⟨21, _⟩ => ⟨S1x4096x256, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v28 : BitVec 1 := Scalar.cmpi .eq arg1 c0_i32
  let v29 : BitVec 32 := Scalar.extui v28
  let c0_i32_19 : BitVec 32 := 0#32
  let v30 : BitVec 1 := Scalar.cmpi .ne v29 c0_i32_19
  v30

def k0_cond2 (i : grid0.Coords) : BitVec 1 :=
  let arg1 : BitVec 32 := BitVec.ofNat 32 (i 1).val
  let c0_i32_20 : BitVec 32 := 0#32
  let v31 : BitVec 1 := Scalar.cmpi .ne arg1 c0_i32_20
  let v32 : BitVec 32 := Scalar.extui v31
  let c0_i32_21 : BitVec 32 := 0#32
  let v33 : BitVec 1 := Scalar.cmpi .ne v32 c0_i32_21
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S49x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4096x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MainRefIdeal.lean ====
abbrev S2x256x64x64 : Shape := ⟨4, ![2, 256, 64, 64]⟩
abbrev S2x256x32x32 : Shape := ⟨4, ![2, 256, 32, 32]⟩
abbrev S256x256x1x1 : Shape := ⟨4, ![256, 256, 1, 1]⟩
abbrev S256 : Shape := ⟨1, ![256]⟩
abbrev S512x256x1x1 : Shape := ⟨4, ![512, 256, 1, 1]⟩
abbrev S512 : Shape := ⟨1, ![512]⟩
abbrev S256x1x7x7 : Shape := ⟨4, ![256, 1, 7, 7]⟩
abbrev S2x256x4096 : Shape := ⟨3, ![2, 256, 4096]⟩
abbrev S2x256x1024 : Shape := ⟨3, ![2, 256, 1024]⟩
abbrev S256x256 : Shape := ⟨2, ![256, 256]⟩
abbrev S2x4096x256 : Shape := ⟨3, ![2, 4096, 256]⟩
abbrev S1x1x256 : Shape := ⟨3, ![1, 1, 256]⟩
abbrev S512x256 : Shape := ⟨2, ![512, 256]⟩
abbrev S2x4096x512 : Shape := ⟨3, ![2, 4096, 512]⟩
abbrev S1x1x512 : Shape := ⟨3, ![1, 1, 512]⟩
abbrev S2x1024x512 : Shape := ⟨3, ![2, 1024, 512]⟩
abbrev S2x1024x8x64 : Shape := ⟨4, ![2, 1024, 8, 64]⟩
abbrev S2x8x1024x64 : Shape := ⟨4, ![2, 8, 1024, 64]⟩
abbrev S2x8x1024x32 : Shape := ⟨4, ![2, 8, 1024, 32]⟩
abbrev S2x4096x8x32 : Shape := ⟨4, ![2, 4096, 8, 32]⟩
abbrev S2x8x4096x32 : Shape := ⟨4, ![2, 8, 4096, 32]⟩
abbrev S2x8x4096x1024 : Shape := ⟨4, ![2, 8, 4096, 1024]⟩
abbrev S_ : Shape := ⟨0, ![]⟩
abbrev S2x8x4096 : Shape := ⟨3, ![2, 8, 4096]⟩
abbrev S2x8x4096x1 : Shape := ⟨4, ![2, 8, 4096, 1]⟩
abbrev S2x8x32x1024 : Shape := ⟨4, ![2, 8, 32, 1024]⟩
abbrev S2x256x38x38 : Shape := ⟨4, ![2, 256, 38, 38]⟩
abbrev S2x256x32x38 : Shape := ⟨4, ![2, 256, 32, 38]⟩
abbrev S2x256x1x32x38 : Shape := ⟨5, ![2, 256, 1, 32, 38]⟩
abbrev S2x256x7x32x38 : Shape := ⟨5, ![2, 256, 7, 32, 38]⟩
abbrev S2x256x7x32x32 : Shape := ⟨5, ![2, 256, 7, 32, 32]⟩
abbrev S2x256x7x1x32x32 : Shape := ⟨6, ![2, 256, 7, 1, 32, 32]⟩
abbrev S2x256x7x7x32x32 : Shape := ⟨6, ![2, 256, 7, 7, 32, 32]⟩
abbrev S256x7x7 : Shape := ⟨3, ![256, 7, 7]⟩
abbrev S256x2x32x32 : Shape := ⟨4, ![256, 2, 32, 32]⟩
abbrev S1x256x1x1 : Shape := ⟨4, ![1, 256, 1, 1]⟩
abbrev S64 : Shape := ⟨1, ![64]⟩
abbrev S1x64 : Shape := ⟨2, ![1, 64]⟩
abbrev S32 : Shape := ⟨1, ![32]⟩
abbrev S32x1 : Shape := ⟨2, ![32, 1]⟩
abbrev S32x64 : Shape := ⟨2, ![32, 64]⟩
abbrev S64x2x256x32 : Shape := ⟨4, ![64, 2, 256, 32]⟩
abbrev S64x2x256x64 : Shape := ⟨4, ![64, 2, 256, 64]⟩
abbrev S2x256 : Shape := ⟨2, ![2, 256]⟩
abbrev S2x1x256 : Shape := ⟨3, ![2, 1, 256]⟩

abbrev nBuf : Space → Nat
  | .hbm => 165
  | .vmem => 0
  | .smem => 0
  | _ => 0

abbrev hbmTy0_0 (i : Nat) : BufTy := match i % 128 with
  | 0 => ⟨S2x256x64x64, .f32⟩
  | 1 => ⟨S2x256x32x32, .f32⟩
  | 2 => ⟨S256x256x1x1, .f32⟩
  | 3 => ⟨S256, .f32⟩
  | 4 => ⟨S512x256x1x1, .f32⟩
  | 5 => ⟨S512, .f32⟩
  | 6 => ⟨S256x1x7x7, .f32⟩
  | 7 => ⟨S256, .f32⟩
  | 8 => ⟨S2x256x4096, .f32⟩
  | 9 => ⟨S2x256x1024, .f32⟩
  | 10 => ⟨S256x256, .f32⟩
  | 11 => ⟨S2x4096x256, .f32⟩
  | 12 => ⟨S1x1x256, .f32⟩
  | 13 => ⟨S2x4096x256, .f32⟩
  | 14 => ⟨S2x4096x256, .f32⟩
  | 15 => ⟨S512x256, .f32⟩
  | 16 => ⟨S2x4096x512, .f32⟩
  | 17 => ⟨S1x1x512, .f32⟩
  | 18 => ⟨S2x4096x512, .f32⟩
  | 19 => ⟨S2x4096x512, .f32⟩
  | 20 => ⟨S512x256, .f32⟩
  | 21 => ⟨S2x1024x512, .f32⟩
  | 22 => ⟨S1x1x512, .f32⟩
  | 23 => ⟨S2x1024x512, .f32⟩
  | 24 => ⟨S2x1024x512, .f32⟩
  | 25 => ⟨S2x1024x8x64, .f32⟩
  | 26 => ⟨S2x8x1024x64, .f32⟩
  | 27 => ⟨S2x8x1024x32, .f32⟩
  | 28 => ⟨S2x1024x8x64, .f32⟩
  | 29 => ⟨S2x8x1024x64, .f32⟩
  | 30 => ⟨S2x8x1024x32, .f32⟩
  | 31 => ⟨S2x4096x8x32, .f32⟩
  | 32 => ⟨S2x8x4096x32, .f32⟩
  | 33 => ⟨S2x8x4096x1024, .f32⟩
  | 34 => ⟨S_, .f32⟩
  | 35 => ⟨S2x8x4096x1024, .f32⟩
  | 36 => ⟨S2x8x4096x1024, .f32⟩
  | 37 => ⟨S_, .f32⟩
  | 38 => ⟨S2x8x4096, .f32⟩
  | 39 => ⟨S_, .f32⟩
  | 40 => ⟨S2x8x4096, .f32⟩
  | 41 => ⟨S2x8x4096, .f32⟩
  | 42 => ⟨S2x8x4096x1, .f32⟩
  | 43 => ⟨S2x8x4096x1024, .f32⟩
  | 44 => ⟨S2x8x4096x1024, .f32⟩
  | 45 => ⟨S2x8x4096x1024, .f32⟩
  | 46 => ⟨S_, .f32⟩
  | 47 => ⟨S2x8x4096, .f32⟩
  | 48 => ⟨S2x8x4096x1, .f32⟩
  | 49 => ⟨S2x8x4096x1024, .f32⟩
  | 50 => ⟨S2x8x4096x1024, .f32⟩
  | 51 => ⟨S2x8x4096x32, .f32⟩
  | 52 => ⟨S2x4096x8x32, .f32⟩
  | 53 => ⟨S2x4096x256, .f32⟩
  | 54 => ⟨S2x8x32x1024, .f32⟩
  | 55 => ⟨S2x256x32x32, .f32⟩
  | 56 => ⟨S_, .i32⟩
  | 57 => ⟨S_, .f32⟩
  | 58 => ⟨S2x256x38x38, .f32⟩
  | 59 => ⟨S2x256x32x38, .f32⟩
  | 60 => ⟨S2x256x32x38, .f32⟩
  | 61 => ⟨S2x256x32x38, .f32⟩
  | 62 => ⟨S2x256x32x38, .f32⟩
  | 63 => ⟨S2x256x32x38, .f32⟩
  | 64 => ⟨S2x256x32x38, .f32⟩
  | 65 => ⟨S2x256x32x38, .f32⟩
  | 66 => ⟨S2x256x1x32x38, .f32⟩
  | 67 => ⟨S2x256x1x32x38, .f32⟩
  | 68 => ⟨S2x256x1x32x38, .f32⟩
  | 69 => ⟨S2x256x1x32x38, .f32⟩
  | 70 => ⟨S2x256x1x32x38, .f32⟩
  | 71 => ⟨S2x256x1x32x38, .f32⟩
  | 72 => ⟨S2x256x1x32x38, .f32⟩
  | 73 => ⟨S2x256x7x32x38, .f32⟩
  | 74 => ⟨S2x256x7x32x32, .f32⟩
  | 75 => ⟨S2x256x7x32x32, .f32⟩
  | 76 => ⟨S2x256x7x32x32, .f32⟩
  | 77 => ⟨S2x256x7x32x32, .f32⟩
  | 78 => ⟨S2x256x7x32x32, .f32⟩
  | 79 => ⟨S2x256x7x32x32, .f32⟩
  | 80 => ⟨S2x256x7x32x32, .f32⟩
  | 81 => ⟨S2x256x7x1x32x32, .f32⟩
  | 82 => ⟨S2x256x7x1x32x32, .f32⟩
  | 83 => ⟨S2x256x7x1x32x32, .f32⟩
  | 84 => ⟨S2x256x7x1x32x32, .f32⟩
  | 85 => ⟨S2x256x7x1x32x32, .f32⟩
  | 86 => ⟨S2x256x7x1x32x32, .f32⟩
  | 87 => ⟨S2x256x7x1x32x32, .f32⟩
  | 88 => ⟨S2x256x7x7x32x32, .f32⟩
  | 89 => ⟨S256x7x7, .f32⟩
  | 90 => ⟨S256x2x32x32, .f32⟩
  | 91 => ⟨S2x256x32x32, .f32⟩
  | 92 => ⟨S1x256x1x1, .f32⟩
  | 93 => ⟨S2x256x32x32, .f32⟩
  | 94 => ⟨S2x256x32x32, .f32⟩
  | 95 => ⟨S64, .f32⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S1x64, .f32⟩
  | 106 => ⟨S32, .f32⟩
  | 107 => ⟨S32x1, .f32⟩
  | 108 => ⟨S32x64, .f32⟩
  | 109 => ⟨S32x64, .f32⟩
  | 110 => ⟨S32x64, .f32⟩
  | 111 => ⟨S32x64, .f32⟩
  | 112 => ⟨S_, .f32⟩
  | 113 => ⟨S32x64, .f32⟩
  | 114 => ⟨S32x64, .f32⟩
  | 115 => ⟨S_, .f32⟩
  | 116 => ⟨S32x64, .f32⟩
  | 117 => ⟨S32x64, .f32⟩
  | 118 => ⟨S_, .f32⟩
  | 119 => ⟨S64, .f32⟩
  | 120 => ⟨S1x64, .f32⟩
  | 121 => ⟨S32x64, .f32⟩
  | 122 => ⟨S32x64, .f32⟩
  | 123 => ⟨S64, .f32⟩
  | 124 => ⟨S_, .f32⟩
  | 125 => ⟨S64, .f32⟩
  | 126 => ⟨S64, .f32⟩
  | 127 => ⟨S_, .f32⟩
  | _ => ⟨S2x256x64x64, .f32⟩

abbrev hbmTy0_1 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S1x64, .f32⟩
  | 6 => ⟨S32, .f32⟩
  | 7 => ⟨S32x1, .f32⟩
  | 8 => ⟨S32x64, .f32⟩
  | 9 => ⟨S32x64, .f32⟩
  | 10 => ⟨S32x64, .f32⟩
  | 11 => ⟨S32x64, .f32⟩
  | 12 => ⟨S_, .f32⟩
  | 13 => ⟨S32x64, .f32⟩
  | 14 => ⟨S32x64, .f32⟩
  | 15 => ⟨S_, .f32⟩
  | 16 => ⟨S32x64, .f32⟩
  | 17 => ⟨S32x64, .f32⟩
  | 18 => ⟨S_, .f32⟩
  | 19 => ⟨S64, .f32⟩
  | 20 => ⟨S1x64, .f32⟩
  | 21 => ⟨S32x64, .f32⟩
  | 22 => ⟨S32x64, .f32⟩
  | 23 => ⟨S64x2x256x32, .f32⟩
  | 24 => ⟨S64x2x256x64, .f32⟩
  | 25 => ⟨S2x256x64x64, .f32⟩
  | 26 => ⟨S2x256x4096, .f32⟩
  | 27 => ⟨S2x4096x256, .f32⟩
  | 28 => ⟨S_, .f32⟩
  | 29 => ⟨S2x4096x256, .f32⟩
  | 30 => ⟨S2x4096x256, .f32⟩
  | 31 => ⟨S_, .f32⟩
  | 32 => ⟨S2x4096x256, .f32⟩
  | 33 => ⟨S2x4096x256, .f32⟩
  | 34 => ⟨S_, .f32⟩
  | 35 => ⟨S2x256, .f32⟩
  | 36 => ⟨S2x1x256, .f32⟩
  | _ => ⟨S2x256x64x64, .f32⟩

abbrev hbmTy (i : Nat) : BufTy := match i / 128 with
  | 0 => hbmTy0_0 i
  | 1 => hbmTy0_1 i
  | _ => ⟨S2x256x64x64, .f32⟩

abbrev bufTy : (tb : Table) → Fin (tcTables nBuf tb) → BufTy
  | .hbm, ⟨i, _⟩ => hbmTy i
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call0_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_3 : Ref sig .tc := ⟨.hbm, 96, rfl⟩
abbrev main_v82 : Ref sig .tc := ⟨.hbm, 97, rfl⟩
abbrev main_v83 : Ref sig .tc := ⟨.hbm, 98, rfl⟩
abbrev main_cst_4 : Ref sig .tc := ⟨.hbm, 99, rfl⟩
abbrev main_v84 : Ref sig .tc := ⟨.hbm, 100, rfl⟩
abbrev main_v85 : Ref sig .tc := ⟨.hbm, 101, rfl⟩
abbrev main_cst_5 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_6 : Ref sig .tc := ⟨.hbm, 112, rfl⟩
abbrev main_v95 : Ref sig .tc := ⟨.hbm, 113, rfl⟩
abbrev main_v96 : Ref sig .tc := ⟨.hbm, 114, rfl⟩
abbrev main_cst_7 : Ref sig .tc := ⟨.hbm, 115, rfl⟩
abbrev main_v97 : Ref sig .tc := ⟨.hbm, 116, rfl⟩
abbrev main_v98 : Ref sig .tc := ⟨.hbm, 117, rfl⟩
abbrev main_cst_8 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_9 : Ref sig .tc := ⟨.hbm, 124, rfl⟩
abbrev main_v104 : Ref sig .tc := ⟨.hbm, 125, rfl⟩
abbrev main_v105 : Ref sig .tc := ⟨.hbm, 126, rfl⟩
abbrev main_cst_10 : Ref sig .tc := ⟨.hbm, 127, rfl⟩
abbrev main_v106 : Ref sig .tc := ⟨.hbm, 128, rfl⟩
abbrev main_v107 : Ref sig .tc := ⟨.hbm, 129, rfl⟩
abbrev main_cst_11 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_12 : Ref sig .tc := ⟨.hbm, 140, rfl⟩
abbrev main_v117 : Ref sig .tc := ⟨.hbm, 141, rfl⟩
abbrev main_v118 : Ref sig .tc := ⟨.hbm, 142, rfl⟩
abbrev main_cst_13 : Ref sig .tc := ⟨.hbm, 143, rfl⟩
abbrev main_v119 : Ref sig .tc := ⟨.hbm, 144, rfl⟩
abbrev main_v120 : Ref sig .tc := ⟨.hbm, 145, rfl⟩
abbrev main_cst_14 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_15 : Ref sig .tc := ⟨.hbm, 156, rfl⟩
abbrev main_v130 : Ref sig .tc := ⟨.hbm, 157, rfl⟩
abbrev main_v131 : Ref sig .tc := ⟨.hbm, 158, rfl⟩
abbrev main_cst_16 : Ref sig .tc := ⟨.hbm, 159, rfl⟩
abbrev main_v132 : Ref sig .tc := ⟨.hbm, 160, rfl⟩
abbrev main_v133 : Ref sig .tc := ⟨.hbm, 161, rfl⟩
abbrev main_cst_17 : Ref sig .tc := ⟨.hbm, 162, rfl⟩
abbrev main_v134 : Ref sig .tc := ⟨.hbm, 163, rfl⟩
abbrev main_v135 : Ref sig .tc := ⟨.hbm, 164, rfl⟩

abbrev nD : Nat := 1
abbrev τ : Topo := Topo.v7x

variable {F : FTy → Type} [FloatOps F]
-- ==== Fine.lean ====
abbrev S2x4096x256 : Shape := ⟨3, ![2, 4096, 256]⟩
abbrev S2x128x256 : Shape := ⟨3, ![2, 128, 256]⟩
abbrev S32x64 : Shape := ⟨2, ![32, 64]⟩
abbrev S32 : Shape := ⟨1, ![32]⟩
abbrev S256x256x1x1 : Shape := ⟨4, ![256, 256, 1, 1]⟩
abbrev S256 : Shape := ⟨1, ![256]⟩
abbrev S256x256 : Shape := ⟨2, ![256, 256]⟩
abbrev S1x256 : Shape := ⟨2, ![1, 256]⟩
abbrev S8x8 : Shape := ⟨2, ![8, 8]⟩
abbrev S_ : Shape := ⟨0, ![]⟩
abbrev S32x32 : Shape := ⟨2, ![32, 32]⟩
abbrev S8x1x8x1 : Shape := ⟨4, ![8, 1, 8, 1]⟩
abbrev S1x32x1x32 : Shape := ⟨4, ![1, 32, 1, 32]⟩
abbrev S8x32x8x32 : Shape := ⟨4, ![8, 32, 8, 32]⟩
abbrev S1x32 : Shape := ⟨2, ![1, 32]⟩
abbrev S8x32 : Shape := ⟨2, ![8, 32]⟩
abbrev S128 : Shape := ⟨1, ![128]⟩
abbrev S128x1 : Shape := ⟨2, ![128, 1]⟩
abbrev S128x256 : Shape := ⟨2, ![128, 256]⟩
abbrev S2x256x4096 : Shape := ⟨3, ![2, 256, 4096]⟩
abbrev S1x1024x256 : Shape := ⟨3, ![1, 1024, 256]⟩
abbrev S1x128x256 : Shape := ⟨3, ![1, 128, 256]⟩
abbrev S1x256x1024 : Shape := ⟨3, ![1, 256, 1024]⟩
abbrev S1024x256 : Shape := ⟨2, ![1024, 256]⟩
abbrev S1024x128 : Shape := ⟨2, ![1024, 128]⟩
abbrev S256x1024 : Shape := ⟨2, ![256, 1024]⟩
abbrev S256x1 : Shape := ⟨2, ![256, 1]⟩

abbrev nBuf : Space → Nat
  | .hbm => 83
  | .vmem => 18
  | .smem => 0
  | _ => 0

abbrev bufTy : (tb : Table) → Fin (tcTables nBuf tb) → BufTy
  | .hbm, ⟨0, _⟩ => ⟨S2x4096x256, .f32⟩
  | .hbm, ⟨1, _⟩ => ⟨S2x4096x256, .f32⟩
  | .hbm, ⟨2, _⟩ => ⟨S2x4096x256, .f32⟩
  | .hbm, ⟨3, _⟩ => ⟨S2x128x256, .f32⟩
  | .hbm, ⟨4, _⟩ => ⟨S2x128x256, .f32⟩
  | .hbm, ⟨5, _⟩ => ⟨S32x64, .f32⟩
  | .hbm, ⟨6, _⟩ => ⟨S32, .f32⟩
  | .hbm, ⟨7, _⟩ => ⟨S256x256x1x1, .f32⟩
  | .hbm, ⟨8, _⟩ => ⟨S256, .f32⟩
  | .hbm, ⟨9, _⟩ => ⟨S256x256, .f32⟩
  | .hbm, ⟨10, _⟩ => ⟨S1x256, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S32x32, .f32⟩
  | .hbm, ⟨19, _⟩ => ⟨S32x32, .f32⟩
  | .hbm, ⟨20, _⟩ => ⟨S8x1x8x1, .f32⟩
  | .hbm, ⟨21, _⟩ => ⟨S1x32x1x32, .f32⟩
  | .hbm, ⟨22, _⟩ => ⟨S8x32x8x32, .f32⟩
  | .hbm, ⟨23, _⟩ => ⟨S8x32x8x32, .f32⟩
  | .hbm, ⟨24, _⟩ => ⟨S8x32x8x32, .f32⟩
  | .hbm, ⟨25, _⟩ => ⟨S256x256, .f32⟩
  | .hbm, ⟨26, _⟩ => ⟨S32x32, .f32⟩
  | .hbm, ⟨27, _⟩ => ⟨S32x32, .f32⟩
  | .hbm, ⟨28, _⟩ => ⟨S8x1x8x1, .f32⟩
  | .hbm, ⟨29, _⟩ => ⟨S1x32x1x32, .f32⟩
  | .hbm, ⟨30, _⟩ => ⟨S8x32x8x32, .f32⟩
  | .hbm, ⟨31, _⟩ => ⟨S8x32x8x32, .f32⟩
  | .hbm, ⟨32, _⟩ => ⟨S8x32x8x32, .f32⟩
  | .hbm, ⟨33, _⟩ => ⟨S256x256, .f32⟩
  | .hbm, ⟨34, _⟩ => ⟨S1x32, .f32⟩
  | .hbm, ⟨35, _⟩ => ⟨S8x32, .f32⟩
  | .hbm, ⟨36, _⟩ => ⟨S256, .f32⟩
  | .hbm, ⟨37, _⟩ => ⟨S1x256, .f32⟩
  | .hbm, ⟨38, _⟩ => ⟨S128, .i32⟩
  | .hbm, ⟨39, _⟩ => ⟨S128x1, .i32⟩
  | .hbm, ⟨40, _⟩ => ⟨S_, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x1, .i32⟩
  | .hbm, ⟨45, _⟩ => ⟨S_, .i32⟩
  | .hbm, ⟨46, _⟩ => ⟨S128x1, .i32⟩
  | .hbm, ⟨47, _⟩ => ⟨S128x1, .i1⟩
  | .hbm, ⟨48, _⟩ => ⟨S128x1, .i32⟩
  | .hbm, ⟨49, _⟩ => ⟨S128x1, .i32⟩
  | .hbm, ⟨50, _⟩ => ⟨S_, .i32⟩
  | .hbm, ⟨51, _⟩ => ⟨S128x1, .i32⟩
  | .hbm, ⟨52, _⟩ => ⟨S128x1, .i1⟩
  | .hbm, ⟨53, _⟩ => ⟨S128x1, .i1⟩
  | .hbm, ⟨54, _⟩ => ⟨S_, .i32⟩
  | .hbm, ⟨55, _⟩ => ⟨S128x1, .i32⟩
  | .hbm, ⟨56, _⟩ => ⟨S128x1, .i32⟩
  | .hbm, ⟨57, _⟩ => ⟨S128x1, .i32⟩
  | .hbm, ⟨58, _⟩ => ⟨S256, .i32⟩
  | .hbm, ⟨59, _⟩ => ⟨S1x256, .i32⟩
  | .hbm, ⟨60, _⟩ => ⟨S_, .i32⟩
  | .hbm, ⟨61, _⟩ => ⟨S_, .i32⟩
  | .hbm, ⟨62, _⟩ => ⟨S1x256, .i32⟩
  | .hbm, ⟨63, _⟩ => ⟨S1x256, .i32⟩
  | .hbm, ⟨64, _⟩ => ⟨S1x256, .i32⟩
  | .hbm, ⟨65, _⟩ => ⟨S_, .i32⟩
  | .hbm, ⟨66, _⟩ => ⟨S1x256, .i32⟩
  | .hbm, ⟨67, _⟩ => ⟨S1x256, .i1⟩
  | .hbm, ⟨68, _⟩ => ⟨S1x256, .i32⟩
  | .hbm, ⟨69, _⟩ => ⟨S1x256, .i32⟩
  | .hbm, ⟨70, _⟩ => ⟨S_, .i32⟩
  | .hbm, ⟨71, _⟩ => ⟨S1x256, .i32⟩
  | .hbm, ⟨72, _⟩ => ⟨S1x256, .i1⟩
  | .hbm, ⟨73, _⟩ => ⟨S1x256, .i1⟩
  | .hbm, ⟨74, _⟩ => ⟨S_, .i32⟩
  | .hbm, ⟨75, _⟩ => ⟨S1x256, .i32⟩
  | .hbm, ⟨76, _⟩ => ⟨S1x256, .i32⟩
  | .hbm, ⟨77, _⟩ => ⟨S1x256, .i32⟩
  | .hbm, ⟨78, _⟩ => ⟨S128x256, .i32⟩
  | .hbm, ⟨79, _⟩ => ⟨S128x256, .i32⟩
  | .hbm, ⟨80, _⟩ => ⟨S128x256, .i1⟩
  | .hbm, ⟨81, _⟩ => ⟨S128x256, .f32⟩
  | .hbm, ⟨82, _⟩ => ⟨S2x256x4096, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S128x256, .f32⟩
  | .local _ .vmem, ⟨11, _⟩ => ⟨S256x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x256x1024, .f32⟩
  | .local _ .vmem, ⟨17, _⟩ => ⟨S1x256x1024, .f32⟩
  | _, _ => ⟨S2x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_0 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_c_1 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_c : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_0 : Ref sig .tc := ⟨.hbm, 74, rfl⟩
abbrev main_call3_v12 : Ref sig .tc := ⟨.hbm, 75, rfl⟩
abbrev main_call3_v13 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FineRefIdeal.lean ====
abbrev S2x4096x256 : Shape := ⟨3, ![2, 4096, 256]⟩
abbrev S2x128x256 : Shape := ⟨3, ![2, 128, 256]⟩
abbrev S32x64 : Shape := ⟨2, ![32, 64]⟩
abbrev S32 : Shape := ⟨1, ![32]⟩
abbrev S256x256x1x1 : Shape := ⟨4, ![256, 256, 1, 1]⟩
abbrev S256 : Shape := ⟨1, ![256]⟩
abbrev S2x8x16x8x32 : Shape := ⟨5, ![2, 8, 16, 8, 32]⟩
abbrev S_ : Shape := ⟨0, ![]⟩
abbrev S2x8x16x32 : Shape := ⟨4, ![2, 8, 16, 32]⟩
abbrev S2x4096x8x32 : Shape := ⟨4, ![2, 4096, 8, 32]⟩
abbrev S2x8x4096x32 : Shape := ⟨4, ![2, 8, 4096, 32]⟩
abbrev S2x8x4096x16 : Shape := ⟨4, ![2, 8, 4096, 16]⟩
abbrev S2x8x4096 : Shape := ⟨3, ![2, 8, 4096]⟩
abbrev S2x8x4096x1 : Shape := ⟨4, ![2, 8, 4096, 1]⟩
abbrev S2x8x4096x64 : Shape := ⟨4, ![2, 8, 4096, 64]⟩
abbrev S1x1x1x32 : Shape := ⟨4, ![1, 1, 1, 32]⟩
abbrev S256x256 : Shape := ⟨2, ![256, 256]⟩
abbrev S256x2x4096 : Shape := ⟨3, ![256, 2, 4096]⟩
abbrev S2x256x4096 : Shape := ⟨3, ![2, 256, 4096]⟩
abbrev S256x1 : Shape := ⟨2, ![256, 1]⟩
abbrev S1x256x1 : Shape := ⟨3, ![1, 256, 1]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x256, .f32⟩
  | .hbm, ⟨1, _⟩ => ⟨S2x4096x256, .f32⟩
  | .hbm, ⟨2, _⟩ => ⟨S2x4096x256, .f32⟩
  | .hbm, ⟨3, _⟩ => ⟨S2x128x256, .f32⟩
  | .hbm, ⟨4, _⟩ => ⟨S2x128x256, .f32⟩
  | .hbm, ⟨5, _⟩ => ⟨S32x64, .f32⟩
  | .hbm, ⟨6, _⟩ => ⟨S32, .f32⟩
  | .hbm, ⟨7, _⟩ => ⟨S256x256x1x1, .f32⟩
  | .hbm, ⟨8, _⟩ => ⟨S256, .f32⟩
  | .hbm, ⟨9, _⟩ => ⟨S2x8x16x8x32, .f32⟩
  | .hbm, ⟨10, _⟩ => ⟨S_, .f32⟩
  | .hbm, ⟨11, _⟩ => ⟨S2x8x16x32, .f32⟩
  | .hbm, ⟨12, _⟩ => ⟨S2x8x16x8x32, .f32⟩
  | .hbm, ⟨13, _⟩ => ⟨S_, .f32⟩
  | .hbm, ⟨14, _⟩ => ⟨S2x8x16x32, .f32⟩
  | .hbm, ⟨15, _⟩ => ⟨S2x4096x8x32, .f32⟩
  | .hbm, ⟨16, _⟩ => ⟨S2x8x4096x32, .f32⟩
  | .hbm, ⟨17, _⟩ => ⟨S2x8x4096x16, .f32⟩
  | .hbm, ⟨18, _⟩ => ⟨S_, .f32⟩
  | .hbm, ⟨19, _⟩ => ⟨S2x8x4096, .f32⟩
  | .hbm, ⟨20, _⟩ => ⟨S_, .f32⟩
  | .hbm, ⟨21, _⟩ => ⟨S2x8x4096, .f32⟩
  | .hbm, ⟨22, _⟩ => ⟨S2x8x4096, .f32⟩
  | .hbm, ⟨23, _⟩ => ⟨S2x8x4096x1, .f32⟩
  | .hbm, ⟨24, _⟩ => ⟨S2x8x4096x16, .f32⟩
  | .hbm, ⟨25, _⟩ => ⟨S2x8x4096x16, .f32⟩
  | .hbm, ⟨26, _⟩ => ⟨S2x8x4096x16, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x16, .f32⟩
  | .hbm, ⟨31, _⟩ => ⟨S2x8x4096x16, .f32⟩
  | .hbm, ⟨32, _⟩ => ⟨S2x8x4096x32, .f32⟩
  | .hbm, ⟨33, _⟩ => ⟨S2x4096x8x32, .f32⟩
  | .hbm, ⟨34, _⟩ => ⟨S2x8x4096x32, .f32⟩
  | .hbm, ⟨35, _⟩ => ⟨S2x8x4096x64, .f32⟩
  | .hbm, ⟨36, _⟩ => ⟨S2x8x4096x32, .f32⟩
  | .hbm, ⟨37, _⟩ => ⟨S1x1x1x32, .f32⟩
  | .hbm, ⟨38, _⟩ => ⟨S2x8x4096x32, .f32⟩
  | .hbm, ⟨39, _⟩ => ⟨S2x8x4096x32, .f32⟩
  | .hbm, ⟨40, _⟩ => ⟨S2x8x4096x32, .f32⟩
  | .hbm, ⟨41, _⟩ => ⟨S2x8x4096x32, .f32⟩
  | .hbm, ⟨42, _⟩ => ⟨S_, .f32⟩
  | .hbm, ⟨43, _⟩ => ⟨S2x8x4096x32, .f32⟩
  | .hbm, ⟨44, _⟩ => ⟨S2x8x4096x32, .f32⟩
  | .hbm, ⟨45, _⟩ => ⟨S_, .f32⟩
  | .hbm, ⟨46, _⟩ => ⟨S2x8x4096x32, .f32⟩
  | .hbm, ⟨47, _⟩ => ⟨S2x8x4096x32, .f32⟩
  | .hbm, ⟨48, _⟩ => ⟨S2x8x4096x32, .f32⟩
  | .hbm, ⟨49, _⟩ => ⟨S_, .f32⟩
  | .hbm, ⟨50, _⟩ => ⟨S2x8x4096x32, .f32⟩
  | .hbm, ⟨51, _⟩ => ⟨S2x8x4096x32, .f32⟩
  | .hbm, ⟨52, _⟩ => ⟨S2x8x4096x32, .f32⟩
  | .hbm, ⟨53, _⟩ => ⟨S2x8x4096x32, .f32⟩
  | .hbm, ⟨54, _⟩ => ⟨S2x4096x8x32, .f32⟩
  | .hbm, ⟨55, _⟩ => ⟨S2x4096x256, .f32⟩
  | .hbm, ⟨56, _⟩ => ⟨S2x4096x256, .f32⟩
  | .hbm, ⟨57, _⟩ => ⟨S256x256, .f32⟩
  | .hbm, ⟨58, _⟩ => ⟨S256x2x4096, .f32⟩
  | .hbm, ⟨59, _⟩ => ⟨S2x256x4096, .f32⟩
  | .hbm, ⟨60, _⟩ => ⟨S256x1, .f32⟩
  | .hbm, ⟨61, _⟩ => ⟨S1x256x1, .f32⟩
  | .hbm, ⟨62, _⟩ => ⟨S2x256x4096, .f32⟩
  | .hbm, ⟨63, _⟩ => ⟨S2x256x4096, .f32⟩
  | _, _ => ⟨S2x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.MainRun.lean ====
module

public import proofs.«01_k».proof.Proof.Gen.MainIdeal.Frame
public import proofs.«01_k».proof.Proof.Gen.MainIdeal.Skeleton
public import Idealize.ShloMosaic.Lib.Pipeline.ValueKit

/-! The body of the call at the first tile of a batch entry and at a later one, each output's buffer named. -/

@[expose] public section

-- membership in a rectangle of production extents (`View.cover_of_tiled`): the elaborator's structural look
-- recurses once per coordinate of the long axes
set_option maxRecDepth 16384

noncomputable section

namespace Cert.MainIdeal.Val

open Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the first tile of a batch entry. -/
abbrev cond0_0 (i : grid0.Coords) : Prop := k0_cond1 i = 1#1
/-- The body's second condition: a later tile. -/
abbrev cond0_1 (i : grid0.Coords) : Prop := k0_cond2 i = 1#1

theorem z3 : (![0, 0, 0] : Fin 3 → Nat) = fun _ => 0 := by decide
theorem z2 : (![0, 0] : Fin 2 → Nat) = fun _ => 0 := by decide

/-! ## What the body leaves in each output's buffer, from the input blocks -/

/-- The queries of one tile of 1024 positions: the projection, the bias added, scaled. -/
def qOut (x : Vec F S1x256x1024 .f32) (qw : Vec F S256x256 .f32) (qb : Vec F S1x256 .f32) : Vec F S1x1024x256 .f32 :=
  k0_pay29 x qw qb

/-- The fine keys and values of one tile. -/
def fkvOut (x : Vec F S1x256x1024 .f32) (kw : Vec F S512x256 .f32) (kb : Vec F S1x512 .f32) : Vec F S1x1024x512 .f32 :=
  k0_pay30 x kw kb

/-- The coarse keys and values of one batch entry. -/
def kvuOut (u : Vec F S1x256x1024 .f32) (kw : Vec F S512x256 .f32) (kb : Vec F S1x512 .f32) : Vec F S1x1024x512 .f32 :=
  k0_pay3 u kw kb

/-- The sum of one tile's queries, as the first tile stores it. -/
def qsOut (x : Vec F S1x256x1024 .f32) (qw : Vec F S256x256 .f32) (qb : Vec F S1x256 .f32) : Vec F S1x1x256 .f32 :=
  k0_pay4 (k0_pay31 x qw qb)

/-- The sum of one tile's queries added to what the earlier tiles left. -/
def qsAcc (x : Vec F S1x256x1024 .f32) (qw : Vec F S256x256 .f32) (qb : Vec F S1x256 .f32) (s : Vec F S1x1x256 .f32) : Vec F S1x1x256 .f32 :=
  k0_pay33 (k0_pay31 x qw qb) s

/-- The coarse attention of one tile: the eight heads' outputs side by side. -/
def coOut (x : Vec F S1x256x1024 .f32) (qw : Vec F S256x256 .f32) (qb : Vec F S1x256 .f32) (kv : Vec F S1x1024x512 .f32) : Vec F S1x1024x256 .f32 :=
  k0_pay1 (k0_pay34 kv) (k0_pay35 (k0_pay28 x qw qb)) (k0_pay36 (k0_pay28 x qw qb) kv) (k0_pay37 (k0_pay28 x qw qb) kv)
    (k0_pay38 (k0_pay28 x qw qb) kv) (k0_pay40 (k0_pay34 kv) (k0_pay39 (k0_pay28 x qw qb)))
    (k0_pay41 (k0_pay34 kv) (k0_pay35 (k0_pay28 x qw qb))) (k0_pay42 (k0_pay34 kv) (k0_pay35 (k0_pay28 x qw qb)))
    (k0_pay43 (k0_pay34 kv)) (k0_pay45 (k0_pay34 kv) (k0_pay35 (k0_pay28 x qw qb)))
    (k0_pay46 (k0_pay34 kv) (k0_pay35 (k0_pay28 x qw qb))) (constant S1024x32 .f32 0x00000000#32)

/-- The positional term of one batch entry: the depthwise convolution of the values, upsampled. -/
def peOut (u : Vec F S1x256x1024 .f32) (kw : Vec F S512x256 .f32) (kb : Vec F S1x512 .f32) (pw : Vec F S49x256 .f32) (pb : Vec F S1x256 .f32) :
    Vec F S1x4096x256 .f32 :=
  let v145 := u
  let v147 := kw
  let v150 := kb
  let v186 := k0_pay5 v145 v147 v150
  let v187 := k0_pay6 v145 v147 v150
  let v194 := pb
  let v201 := View.ld pw (Rect.unit (s := S49x256) ![0, 0] S1x256.size inb_S49x256_S1x256_0_0)
  let v208 := View.ld pw (Rect.unit (s := S49x256) ![1, 0] S1x256.size inb_S49x256_S1x256_1_0)
  let v215 := View.ld pw (Rect.unit (s := S49x256) ![2, 0] S1x256.size inb_S49x256_S1x256_2_0)
  let v222 := View.ld pw (Rect.unit (s := S49x256) ![3, 0] S1x256.size inb_S49x256_S1x256_3_0)
  let v229 := View.ld pw (Rect.unit (s := S49x256) ![4, 0] S1x256.size inb_S49x256_S1x256_4_0)
  let v188 := k0_pay7 v186
  let v189 := k0_pay8 v186
  let v190 := k0_pay9 v186
  let v191 := k0_pay10 v186
  let v192 := k0_pay11 v186
  let v193 := k0_pay12 v186
  let v234 := k0_pay13 v186 v187 v194 v201 v208 v215 v222 v229
  let v236 := View.ld pw (Rect.unit (s := S49x256) ![5, 0] S1x256.size inb_S49x256_S1x256_5_0)
  let v243 := View.ld pw (Rect.unit (s := S49x256) ![6, 0] S1x256.size inb_S49x256_S1x256_6_0)
  let v250 := View.ld pw (Rect.unit (s := S49x256) ![7, 0] S1x256.size inb_S49x256_S1x256_7_0)
  let v257 := View.ld pw (Rect.unit (s := S49x256) ![8, 0] S1x256.size inb_S49x256_S1x256_8_0)
  let v264 := View.ld pw (Rect.unit (s := S49x256) ![9, 0] S1x256.size inb_S49x256_S1x256_9_0)
  let v271 := View.ld pw (Rect.unit (s := S49x256) ![10, 0] S1x256.size inb_S49x256_S1x256_10_0)
  let v278 := View.ld pw (Rect.unit (s := S49x256) ![11, 0] S1x256.size inb_S49x256_S1x256_11_0)
  let v276 := k0_pay14 v187 v188 v189 v190 v192 v193 v234 v236 v243 v250 v257 v264 v271
  let v277 := k0_pay15 v191
  let v280 := k0_pay16 v278
  let v285 := View.ld pw (Rect.unit (s := S49x256) ![12, 0] S1x256.size inb_S49x256_S1x256_12_0)
  let v292 := View.ld pw (Rect.unit (s := S49x256) ![13, 0] S1x256.size inb_S49x256_S1x256_13_0)
  let v299 := View.ld pw (Rect.unit (s := S49x256) ![14, 0] S1x256.size inb_S49x256_S1x256_14_0)
  let v306 := View.ld pw (Rect.unit (s := S49x256) ![15, 0] S1x256.size inb_S49x256_S1x256_15_0)
  let v313 := View.ld pw (Rect.unit (s := S49x256) ![16, 0] S1x256.size inb_S49x256_S1x256_16_0)
  let v320 := View.ld pw (Rect.unit (s := S49x256) ![17, 0] S1x256.size inb_S49x256_S1x256_17_0)
  let v325 := k0_pay17 v187 v188 v189 v190 v192 v193 v276 v277 v280 v285 v292 v299 v306 v313 v320
  let v326 := k0_pay18 v191
  let v327 := View.ld pw (Rect.unit (s := S49x256) ![18, 0] S1x256.size inb_S49x256_S1x256_18_0)
  let v334 := View.ld pw (Rect.unit (s := S49x256) ![19, 0] S1x256.size inb_S49x256_S1x256_19_0)
  let v341 := View.ld pw (Rect.unit (s := S49x256) ![20, 0] S1x256.size inb_S49x256_S1x256_20_0)
  let v348 := View.ld pw (Rect.unit (s := S49x256) ![21, 0] S1x256.size inb_S49x256_S1x256_21_0)
  let v355 := View.ld pw (Rect.unit (s := S49x256) ![22, 0] S1x256.size inb_S49x256_S1x256_22_0)
  let v362 := View.ld pw (Rect.unit (s := S49x256) ![23, 0] S1x256.size inb_S49x256_S1x256_23_0)
  let v369 := View.ld pw (Rect.unit (s := S49x256) ![24, 0] S1x256.size inb_S49x256_S1x256_24_0)
  let v374 := (k0_pay19 v187 v188 v189 v190 v192 v193 v325 v326 v327 v334 v341 v348 v355 v362 v369)
  let v376 := View.ld pw (Rect.unit (s := S49x256) ![25, 0] S1x256.size inb_S49x256_S1x256_25_0)
  let v383 := View.ld pw (Rect.unit (s := S49x256) ![26, 0] S1x256.size inb_S49x256_S1x256_26_0)
  let v390 := View.ld pw (Rect.unit (s := S49x256) ![27, 0] S1x256.size inb_S49x256_S1x256_27_0)
  let v397 := View.ld pw (Rect.unit (s := S49x256) ![28, 0] S1x256.size inb_S49x256_S1x256_28_0)
  let v404 := View.ld pw (Rect.unit (s := S49x256) ![29, 0] S1x256.size inb_S49x256_S1x256_29_0)
  let v411 := View.ld pw (Rect.unit (s := S49x256) ![30, 0] S1x256.size inb_S49x256_S1x256_30_0)
  let v418 := View.ld pw (Rect.unit (s := S49x256) ![31, 0] S1x256.size inb_S49x256_S1x256_31_0)
  let v416 := k0_pay20 v187 v188 v189 v191 v192 v193 v374 v376 v383 v390 v397 v404 v411
  let v417 := k0_pay21 v190
  let v420 := k0_pay22 v418
  let v425 := View.ld pw (Rect.unit (s := S49x256) ![32, 0] S1x256.size inb_S49x256_S1x256_32_0)
  let v432 := View.ld pw (Rect.unit (s := S49x256) ![33, 0] S1x256.size inb_S49x256_S1x256_33_0)
  let v439 := View.ld pw (Rect.unit (s := S49x256) ![34, 0] S1x256.size inb_S49x256_S1x256_34_0)
  let v446 := View.ld pw (Rect.unit (s := S49x256) ![35, 0] S1x256.size inb_S49x256_S1x256_35_0)
  let v453 := View.ld pw (Rect.unit (s := S49x256) ![36, 0] S1x256.size inb_S49x256_S1x256_36_0)
  let v460 := View.ld pw (Rect.unit (s := S49x256) ![37, 0] S1x256.size inb_S49x256_S1x256_37_0)
  let v465 := k0_pay23 v187 v188 v189 v191 v192 v193 v416 v417 v420 v425 v432 v439 v446 v453 v460
  let v466 := k0_pay24 v190
  let v467 := View.ld pw (Rect.unit (s := S49x256) ![38, 0] S1x256.size inb_S49x256_S1x256_38_0)
  let v474 := View.ld pw (Rect.unit (s := S49x256) ![39, 0] S1x256.size inb_S49x256_S1x256_39_0)
  let v481 := View.ld pw (Rect.unit (s := S49x256) ![40, 0] S1x256.size inb_S49x256_S1x256_40_0)
  let v488 := View.ld pw (Rect.unit (s := S49x256) ![41, 0] S1x256.size inb_S49x256_S1x256_41_0)
  let v495 := View.ld pw (Rect.unit (s := S49x256) ![42, 0] S1x256.size inb_S49x256_S1x256_42_0)
  let v502 := View.ld pw (Rect.unit (s := S49x256) ![43, 0] S1x256.size inb_S49x256_S1x256_43_0)
  let v509 := View.ld pw (Rect.unit (s := S49x256) ![44, 0] S1x256.size inb_S49x256_S1x256_44_0)
  let v514 := (k0_pay25 v187 v188 v189 v191 v192 v193 v465 v466 v467 v474 v481 v488 v495 v502 v509)
  let v516 := View.ld pw (Rect.unit (s := S49x256) ![45, 0] S1x256.size inb_S49x256_S1x256_45_0)
  let v523 := View.ld pw (Rect.unit (s := S49x256) ![46, 0] S1x256.size inb_S49x256_S1x256_46_0)
  let v530 := View.ld pw (Rect.unit (s := S49x256) ![47, 0] S1x256.size inb_S49x256_S1x256_47_0)
  let v537 := View.ld pw (Rect.unit (s := S49x256) ![48, 0] S1x256.size inb_S49x256_S1x256_48_0)
  let v562 := (k0_pay26 v190 v191 v192 v193 v514 v516 v523 v530 v537)
  k0_pay32 v562

set_option maxHeartbeats 1000000 in
/-- The body at the first tile of a batch entry: every output's buffer named. -/
theorem runA (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x512 .f32) (harg7 : arg7.IsWhole) (arg8 : Memref sig .tc .vmem S49x256 .f32) (harg8 : arg8.IsWhole) (arg9 : Memref sig .tc .vmem S1x256 .f32) (harg9 : arg9.IsWhole) (arg10 : Memref sig .tc .vmem S1x1024x256 .f32) (harg10 : arg10.IsWhole) (arg11 : Memref sig .tc .vmem S1x1024x512 .f32) (harg11 : arg11.IsWhole) (arg12 : Memref sig .tc .vmem S1x1024x512 .f32) (harg12 : arg12.IsWhole) (arg13 : Memref sig .tc .vmem S1x1x256 .f32) (harg13 : arg13.IsWhole) (arg14 : Memref sig .tc .vmem S1x1024x256 .f32) (harg14 : arg14.IsWhole) (arg15 : Memref sig .tc .vmem S1x4096x256 .f32) (harg15 : arg15.IsWhole) (hc0 : cond0_0 i) (hc1 : ¬cond0_1 i)
    (x0 : Vec F S1x256x1024 .f32) (x1 : Vec F S1x256x1024 .f32) (x2 : Vec F S256x256 .f32) (x3 : Vec F S512x256 .f32) (x4 : Vec F S1x256 .f32) (x5 : Vec F S1x512 .f32) (x6 : Vec F S49x256 .f32) (x7 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (qOut x0 x2 x4) ∗ owns (c : Thread nD τ) arg11 fullShare (fkvOut x0 x3 x5) ∗ owns (c : Thread nD τ) arg12 fullShare (kvuOut x1 x3 x5) ∗ owns (c : Thread nD τ) arg13 fullShare (qsOut x0 x2 x4) ∗ owns (c : Thread nD τ) arg14 fullShare (coOut x0 x2 x4 (kvuOut x1 x3 x5)) ∗ owns (c : Thread nD τ) arg15 fullShare (peOut x1 x3 x5 x6 x7)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0__main_kernel_eq_skeleton]; unfold cc0__main_kernel_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (fun y => View.cover_of_tiled _ S1x1024x256.size (by rfl) y)).trans ?_
    show View.canon [⟨Rect.unit (s := S1x1024x256) ![0, 0, 0] S1x1024x256.size inb_S1x1024x256_S1x1024x256_0_0_0, qOut (View.ld (View.read (Elt F) arg2.view f0) (Rect.unit (s := S1x256x1024) ![0, 0, 0] S1x256x1024.size inb_S1x256x1024_S1x256x1024_0_0_0)) (View.ld (View.read (Elt F) arg4.view f2) (Rect.unit (s := S256x256) ![0, 0] S256x256.size inb_S256x256_S256x256_0_0)) (View.ld (View.read (Elt F) arg6.view f4) (Rect.unit (s := S1x256) ![0, 0] S1x256.size inb_S1x256_S1x256_0_0))⟩] = _
    rw [View.canon_unit_zero z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  isplitl [H9]
  · iexists _; isplitr
    swap; · iexact H9
    ipureintro
    refine (View.read_writes_eq_canon _ _ _ (fun y => View.cover_of_tiled _ S1x1024x512.size (by rfl) y)).trans ?_
    show View.canon [⟨Rect.unit (s := S1x1024x512) ![0, 0, 0] S1x1024x512.size inb_S1x1024x512_S1x1024x512_0_0_0, fkvOut (View.ld (View.read (Elt F) arg2.view f0) (Rect.unit (s := S1x256x1024) ![0, 0, 0] S1x256x1024.size inb_S1x256x1024_S1x256x1024_0_0_0)) (View.ld (View.read (Elt F) arg5.view f3) (Rect.unit (s := S512x256) ![0, 0] S512x256.size inb_S512x256_S512x256_0_0)) (View.ld (View.read (Elt F) arg7.view f5) (Rect.unit (s := S1x512) ![0, 0] S1x512.size inb_S1x512_S1x512_0_0))⟩] = _
    rw [View.canon_unit_zero z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  isplitl [H10]
  · iexists _; isplitr
    swap; · iexact H10
    ipureintro
    refine (View.read_writes_eq_canon _ _ _ (fun y => View.cover_of_tiled _ S1x1024x512.size (by rfl) y)).trans ?_
    show View.canon [⟨Rect.unit (s := S1x1024x512) ![0, 0, 0] S1x1024x512.size inb_S1x1024x512_S1x1024x512_0_0_0, kvuOut (View.ld (View.read (Elt F) arg3.view f1) (Rect.unit (s := S1x256x1024) ![0, 0, 0] S1x256x1024.size inb_S1x256x1024_S1x256x1024_0_0_0)) (View.ld (View.read (Elt F) arg5.view f3) (Rect.unit (s := S512x256) ![0, 0] S512x256.size inb_S512x256_S512x256_0_0)) (View.ld (View.read (Elt F) arg7.view f5) (Rect.unit (s := S1x512) ![0, 0] S1x512.size inb_S1x512_S1x512_0_0))⟩] = _
    rw [View.canon_unit_zero z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  isplitl [H11]
  · iexists _; isplitr
    swap; · iexact H11
    ipureintro
    refine (View.read_writes_eq_canon _ _ _ (fun y => View.cover_of_tiled _ S1x1x256.size (by rfl) y)).trans ?_
    show View.canon [⟨Rect.unit (s := S1x1x256) ![0, 0, 0] S1x1x256.size inb_S1x1x256_S1x1x256_0_0_0, qsOut (View.ld (View.read (Elt F) arg2.view f0) (Rect.unit (s := S1x256x1024) ![0, 0, 0] S1x256x1024.size inb_S1x256x1024_S1x256x1024_0_0_0)) (View.ld (View.read (Elt F) arg4.view f2) (Rect.unit (s := S256x256) ![0, 0] S256x256.size inb_S256x256_S256x256_0_0)) (View.ld (View.read (Elt F) arg6.view f4) (Rect.unit (s := S1x256) ![0, 0] S1x256.size inb_S1x256_S1x256_0_0))⟩] = _
    rw [View.canon_unit_zero z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  isplitl [H12]
  · iexists _; isplitr
    swap; · iexact H12
    ipureintro
    refine (View.read_writes_eq_canon _ _ _ (fun y => View.cover_of_tiled _ S1x1024x256.size (by rfl) y)).trans ?_
    show View.canon [⟨Rect.unit (s := S1x1024x256) ![0, 0, 0] S1x1024x256.size inb_S1x1024x256_S1x1024x256_0_0_0, coOut (View.ld (View.read (Elt F) arg2.view f0) (Rect.unit (s := S1x256x1024) ![0, 0, 0] S1x256x1024.size inb_S1x256x1024_S1x256x1024_0_0_0)) (View.ld (View.read (Elt F) arg4.view f2) (Rect.unit (s := S256x256) ![0, 0] S256x256.size inb_S256x256_S256x256_0_0)) (View.ld (View.read (Elt F) arg6.view f4) (Rect.unit (s := S1x256) ![0, 0] S1x256.size inb_S1x256_S1x256_0_0)) (arg12.view.readCov [⟨(Rect.unit (s := S1x1024x512) ![0, 0, 0] S1x1024x512.size inb_S1x1024x512_S1x1024x512_0_0_0), kvuOut (View.ld (View.read (Elt F) arg3.view f1) (Rect.unit (s := S1x256x1024) ![0, 0, 0] S1x256x1024.size inb_S1x256x1024_S1x256x1024_0_0_0)) (View.ld (View.read (Elt F) arg5.view f3) (Rect.unit (s := S512x256) ![0, 0] S512x256.size inb_S512x256_S512x256_0_0)) (View.ld (View.read (Elt F) arg7.view f5) (Rect.unit (s := S1x512) ![0, 0] S1x512.size inb_S1x512_S1x512_0_0))⟩] (Rect.unit (s := S1x1024x512) ![0, 0, 0] S1x1024x512.size inb_S1x1024x512_S1x1024x512_0_0_0).toLoadRect)⟩] = _
    rw [View.canon_unit_zero z3]; rw [View.readCov_unit_zero _ z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  iexists _; isplitr
  swap; · iexact H13
  ipureintro
  refine (View.read_writes_eq_canon _ _ _ (fun y => View.cover_of_tiled _ S1x4096x256.size (by rfl) y)).trans ?_
  show View.canon [⟨Rect.unit (s := S1x4096x256) ![0, 0, 0] S1x4096x256.size inb_S1x4096x256_S1x4096x256_0_0_0, peOut (View.ld (View.read (Elt F) arg3.view f1) (Rect.unit (s := S1x256x1024) ![0, 0, 0] S1x256x1024.size inb_S1x256x1024_S1x256x1024_0_0_0)) (View.ld (View.read (Elt F) arg5.view f3) (Rect.unit (s := S512x256) ![0, 0] S512x256.size inb_S512x256_S512x256_0_0)) (View.ld (View.read (Elt F) arg7.view f5) (Rect.unit (s := S1x512) ![0, 0] S1x512.size inb_S1x512_S1x512_0_0)) (View.read (Elt F) arg8.view f6) (View.ld (View.read (Elt F) arg9.view f7) (Rect.unit (s := S1x256) ![0, 0] S1x256.size inb_S1x256_S1x256_0_0))⟩] = _
  rw [View.canon_unit_zero z3]
  simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]

set_option maxHeartbeats 1000000 in
/-- The body at a later tile of a batch entry: every output's buffer named. -/
theorem runB (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x512 .f32) (harg7 : arg7.IsWhole) (arg8 : Memref sig .tc .vmem S49x256 .f32) (harg8 : arg8.IsWhole) (arg9 : Memref sig .tc .vmem S1x256 .f32) (harg9 : arg9.IsWhole) (arg10 : Memref sig .tc .vmem S1x1024x256 .f32) (harg10 : arg10.IsWhole) (arg11 : Memref sig .tc .vmem S1x1024x512 .f32) (harg11 : arg11.IsWhole) (arg12 : Memref sig .tc .vmem S1x1024x512 .f32) (harg12 : arg12.IsWhole) (arg13 : Memref sig .tc .vmem S1x1x256 .f32) (harg13 : arg13.IsWhole) (arg14 : Memref sig .tc .vmem S1x1024x256 .f32) (harg14 : arg14.IsWhole) (arg15 : Memref sig .tc .vmem S1x4096x256 .f32) (harg15 : arg15.IsWhole) (hc0 : ¬cond0_0 i) (hc1 : cond0_1 i)
    (x0 : Vec F S1x256x1024 .f32) (x1 : Vec F S1x256x1024 .f32) (x2 : Vec F S256x256 .f32) (x3 : Vec F S512x256 .f32) (x4 : Vec F S1x256 .f32) (x5 : Vec F S1x512 .f32) (x6 : Vec F S49x256 .f32) (x7 : Vec F S1x256 .f32) (y10 : Vec F S1x1024x512 .f32) (y11 : Vec F S1x1x256 .f32) (y13 : Vec F S1x4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y10 ∗ owns (c : Thread nD τ) arg13 fullShare y11 ∗ (∃ d, owns (c : Thread nD τ) arg14 fullShare d) ∗ owns (c : Thread nD τ) arg15 fullShare y13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (qOut x0 x2 x4) ∗ owns (c : Thread nD τ) arg11 fullShare (fkvOut x0 x3 x5) ∗ owns (c : Thread nD τ) arg12 fullShare (y10) ∗ owns (c : Thread nD τ) arg13 fullShare (qsAcc x0 x2 x4 y11) ∗ owns (c : Thread nD τ) arg14 fullShare (coOut x0 x2 x4 (y10)) ∗ owns (c : Thread nD τ) arg15 fullShare (y13)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0__main_kernel_eq_skeleton]; unfold cc0__main_kernel_skel
  simp only [k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%d12, %f12, -, H12⟩, ⟨%f13, %hf13, H13⟩, Hk⟩
  subst hf0 hf1 hf2 hf3 hf4 hf5 hf6 hf7 hf10 hf11 hf13
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (fun y => View.cover_of_tiled _ S1x1024x256.size (by rfl) y)).trans ?_
    show View.canon [⟨Rect.unit (s := S1x1024x256) ![0, 0, 0] S1x1024x256.size inb_S1x1024x256_S1x1024x256_0_0_0, qOut (View.ld (View.read (Elt F) arg2.view f0) (Rect.unit (s := S1x256x1024) ![0, 0, 0] S1x256x1024.size inb_S1x256x1024_S1x256x1024_0_0_0)) (View.ld (View.read (Elt F) arg4.view f2) (Rect.unit (s := S256x256) ![0, 0] S256x256.size inb_S256x256_S256x256_0_0)) (View.ld (View.read (Elt F) arg6.view f4) (Rect.unit (s := S1x256) ![0, 0] S1x256.size inb_S1x256_S1x256_0_0))⟩] = _
    rw [View.canon_unit_zero z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  isplitl [H9]
  · iexists _; isplitr
    swap; · iexact H9
    ipureintro
    refine (View.read_writes_eq_canon _ _ _ (fun y => View.cover_of_tiled _ S1x1024x512.size (by rfl) y)).trans ?_
    show View.canon [⟨Rect.unit (s := S1x1024x512) ![0, 0, 0] S1x1024x512.size inb_S1x1024x512_S1x1024x512_0_0_0, fkvOut (View.ld (View.read (Elt F) arg2.view f0) (Rect.unit (s := S1x256x1024) ![0, 0, 0] S1x256x1024.size inb_S1x256x1024_S1x256x1024_0_0_0)) (View.ld (View.read (Elt F) arg5.view f3) (Rect.unit (s := S512x256) ![0, 0] S512x256.size inb_S512x256_S512x256_0_0)) (View.ld (View.read (Elt F) arg7.view f5) (Rect.unit (s := S1x512) ![0, 0] S1x512.size inb_S1x512_S1x512_0_0))⟩] = _
    rw [View.canon_unit_zero z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  isplitl [H10]
  · iexists f10; isplitr; · ipureintro; rfl
    iexact H10
  isplitl [H11]
  · iexists _; isplitr
    swap; · iexact H11
    ipureintro
    refine (View.read_writes_eq_canon _ _ _ (fun y => View.cover_of_tiled _ S1x1x256.size (by rfl) y)).trans ?_
    show View.canon [⟨Rect.unit (s := S1x1x256) ![0, 0, 0] S1x1x256.size inb_S1x1x256_S1x1x256_0_0_0, qsAcc (View.ld (View.read (Elt F) arg2.view f0) (Rect.unit (s := S1x256x1024) ![0, 0, 0] S1x256x1024.size inb_S1x256x1024_S1x256x1024_0_0_0)) (View.ld (View.read (Elt F) arg4.view f2) (Rect.unit (s := S256x256) ![0, 0] S256x256.size inb_S256x256_S256x256_0_0)) (View.ld (View.read (Elt F) arg6.view f4) (Rect.unit (s := S1x256) ![0, 0] S1x256.size inb_S1x256_S1x256_0_0)) (View.ld (View.read (Elt F) arg13.view f11) (Rect.unit (s := S1x1x256) ![0, 0, 0] S1x1x256.size inb_S1x1x256_S1x1x256_0_0_0))⟩] = _
    rw [View.canon_unit_zero z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  isplitl [H12]
  · iexists _; isplitr
    swap; · iexact H12
    ipureintro
    refine (View.read_writes_eq_canon _ _ _ (fun y => View.cover_of_tiled _ S1x1024x256.size (by rfl) y)).trans ?_
    show View.canon [⟨Rect.unit (s := S1x1024x256) ![0, 0, 0] S1x1024x256.size inb_S1x1024x256_S1x1024x256_0_0_0, coOut (View.ld (View.read (Elt F) arg2.view f0) (Rect.unit (s := S1x256x1024) ![0, 0, 0] S1x256x1024.size inb_S1x256x1024_S1x256x1024_0_0_0)) (View.ld (View.read (Elt F) arg4.view f2) (Rect.unit (s := S256x256) ![0, 0] S256x256.size inb_S256x256_S256x256_0_0)) (View.ld (View.read (Elt F) arg6.view f4) (Rect.unit (s := S1x256) ![0, 0] S1x256.size inb_S1x256_S1x256_0_0)) (View.ld (View.read (Elt F) arg12.view f10) (Rect.unit (s := S1x1024x512) ![0, 0, 0] S1x1024x512.size inb_S1x1024x512_S1x1024x512_0_0_0))⟩] = _
    rw [View.canon_unit_zero z3]
    simp only [View.ld_unit_zero (S := S1x256x1024) z3, View.ld_unit_zero (S := S256x256) z2, View.ld_unit_zero (S := S512x256) z2, View.ld_unit_zero (S := S1x256) z2, View.ld_unit_zero (S := S1x512) z2, View.ld_unit_zero (S := S1x1024x512) z3, View.ld_unit_zero (S := S1x1x256) z3]
  iexists f13; isplitr; · ipureintro; rfl
  iexact H13

end Cert.MainIdeal.Val

end
-- ==== Proof.MainData.lean ====
module

public import proofs.«01_k».proof.Proof.MainRun
public import Idealize.ShloMosaic.Lib.Pipeline.TableIdle
public import Idealize.ShloMosaic.Lib.Pipeline.ValueKit

/-! What each window holds after each point, the body's triple at every point, and the run of the whole call. -/

@[expose] public section

-- membership in a rectangle of production extents (`View.cover_of_tiled`): the elaborator's structural look
-- recurses once per coordinate of the long axes
set_option maxRecDepth 16384

noncomputable section

namespace Cert.MainIdeal.Val

open Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the tables, in closed form -/

theorem hcond0_0 : ∀ t : Fin cfg0.N, cond0_0 (grid0.coords t) ↔ t.val % 4 = 0 := by decide +kernel
theorem hcond0_1 : ∀ t : Fin cfg0.N, cond0_1 (grid0.coords t) ↔ 1 ≤ t.val % 4 := by decide +kernel

theorem idle10 : ∀ t : Fin cfg0.N, cfg0.idle 10 (grid0.coords t) = !(t.val % 4 == 0) := by decide +kernel
theorem idle11 : ∀ t : Fin cfg0.N, cfg0.idle 11 (grid0.coords t) = false := by decide +kernel
theorem idle13 : ∀ t : Fin cfg0.N, cfg0.idle 13 (grid0.coords t) = !(t.val % 4 == 0) := by decide +kernel
theorem flush10 : ∀ t : Fin cfg0.N, (cfg0.win 10).flush t = (t.val % 4 == 3) := by decide +kernel
theorem flush11 : ∀ t : Fin cfg0.N, (cfg0.win 11).flush t = (t.val % 4 == 3) := by decide +kernel
theorem flush13 : ∀ t : Fin cfg0.N, (cfg0.win 13).flush t = (t.val % 4 == 3) := by decide +kernel

/-- A buffer written only at the first tile and sent at the fourth is fresh exactly before a first tile. -/
theorem fresh_of (w : Fin cfg0.W) (hf : ∀ t : Fin cfg0.N, (cfg0.win w).flush t = (t.val % 4 == 3))
    (hi : ∀ t : Fin cfg0.N, t.val % 4 = 0 → cfg0.idle w (grid0.coords t) = false) (n : ℕ) (hn : n ≤ cfg0.N) :
    cfg0.fresh w n = (n % 4 == 0) := by
  induction n with
  | zero => exact Pipeline.Cfg.fresh_zero cfg0 w
  | succ k ih =>
    rw [Pipeline.Cfg.fresh_succ cfg0 w k hn, hf ⟨k, hn⟩, ih (Nat.le_of_succ_le hn)]
    show (k % 4 == 3 || (cfg0.idle w (cfg0.grid.coords ⟨k, hn⟩) && k % 4 == 0)) = ((k + 1) % 4 == 0)
    have hk : k < cfg0.N := hn
    by_cases h0 : k % 4 = 0
    · have h2 : cfg0.idle w (cfg0.grid.coords ⟨k, hk⟩) = false := hi ⟨k, hk⟩ h0
      rw [h2, show (k % 4 == 3) = false from beq_eq_false_iff_ne.mpr (by omega),
        show ((k + 1) % 4 == 0) = false from beq_eq_false_iff_ne.mpr (by omega)]; rfl
    · rw [show (k % 4 == 0) = false from beq_eq_false_iff_ne.mpr h0, Bool.and_false, Bool.or_false]
      by_cases h3 : k % 4 = 3
      · rw [h3, show (k + 1) % 4 = 0 by omega]; rfl
      · rw [show (k % 4 == 3) = false from beq_eq_false_iff_ne.mpr h3,
          show ((k + 1) % 4 == 0) = false from beq_eq_false_iff_ne.mpr (by omega)]

/-! ## The proof data -/

/-- The first point of the batch entry of point `t`. -/
def bat (t : Fin cfg0.N) : Fin cfg0.N := ⟨t.val / 4 * 4, lt_of_le_of_lt (Nat.div_mul_le_self _ _) t.isLt⟩

theorem bat_first (t : Fin cfg0.N) (h : t.val % 4 = 0) : bat t = t := Fin.ext (by show t.val / 4 * 4 = t.val; omega)
theorem bat_pred (t : Fin cfg0.N) (h : ¬ t.val % 4 = 0) :
    bat ⟨t.val - 1, lt_of_le_of_lt (Nat.sub_le _ _) t.isLt⟩ = bat t :=
  Fin.ext (by show (t.val - 1) / 4 * 4 = t.val / 4 * 4; omega)

/-- The coarse keys and values of the batch entry of point `t`. -/
def kvuAt (c : Dev nD) (t : Fin cfg0.N) : Vec F S1x1024x512 .f32 :=
  kvuOut (iblk m c 1 (bat t)) (iblk m c 3 (bat t)) (iblk m c 5 (bat t))
/-- The positional term of the batch entry of point `t`. -/
def peAt (c : Dev nD) (t : Fin cfg0.N) : Vec F S1x4096x256 .f32 :=
  peOut (iblk m c 1 (bat t)) (iblk m c 3 (bat t)) (iblk m c 5 (bat t)) (iblk m c 6 (bat t)) (iblk m c 7 (bat t))
/-- The query sum after point `n`. -/
def qsAt (c : Dev nD) : (n : ℕ) → (hn : n < cfg0.N) → Vec F S1x1x256 .f32
  | 0, hn => qsOut (iblk m c 0 ⟨0, hn⟩) (iblk m c 2 ⟨0, hn⟩) (iblk m c 4 ⟨0, hn⟩)
  | n + 1, hn =>
    if (n + 1) % 4 = 0 then qsOut (iblk m c 0 ⟨n + 1, hn⟩) (iblk m c 2 ⟨n + 1, hn⟩) (iblk m c 4 ⟨n + 1, hn⟩)
    else qsAcc (iblk m c 0 ⟨n + 1, hn⟩) (iblk m c 2 ⟨n + 1, hn⟩) (iblk m c 4 ⟨n + 1, hn⟩) (qsAt c n (Nat.lt_of_succ_lt hn))

theorem qsAt_first (c : Dev nD) (t : Fin cfg0.N) (h : t.val % 4 = 0) :
    qsAt m c t.val t.isLt = qsOut (iblk m c 0 t) (iblk m c 2 t) (iblk m c 4 t) := by
  obtain ⟨n, hn⟩ := t
  cases n with
  | zero => rfl
  | succ k => exact if_pos h
theorem qsAt_later (c : Dev nD) (t : Fin cfg0.N) (h : ¬ t.val % 4 = 0) :
    qsAt m c t.val t.isLt = qsAcc (iblk m c 0 t) (iblk m c 2 t) (iblk m c 4 t)
      (qsAt m c (t.val - 1) (lt_of_le_of_lt (Nat.sub_le _ _) t.isLt)) := by
  obtain ⟨n, hn⟩ := t
  cases n with
  | zero => exact absurd rfl h
  | succ k => exact if_neg h

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qOut (iblk m c 0 t) (iblk m c 2 t) (iblk m c 4 t)
    | ⟨9, _⟩ => fkvOut (iblk m c 0 t) (iblk m c 3 t) (iblk m c 5 t)
    | ⟨10, _⟩ => kvuAt m c t
    | ⟨11, _⟩ => qsAt m c t.val t.isLt
    | ⟨12, _⟩ => coOut (iblk m c 0 t) (iblk m c 2 t) (iblk m c 4 t) (kvuAt m c t)
    | ⟨13, _⟩ => peAt m c t
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = qOut (iblk m c 0 t) (iblk m c 2 t) (iblk m c 4 t) := by dsimp only [dats]
theorem after0_9 (c : Dev nD) (t : Fin cfg0.N) : (dats m 0 c).after 9 t = fkvOut (iblk m c 0 t) (iblk m c 3 t) (iblk m c 5 t) := by dsimp only [dats]
theorem after0_10 (c : Dev nD) (t : Fin cfg0.N) : (dats m 0 c).after 10 t = kvuAt m c t := by dsimp only [dats]
theorem after0_11 (c : Dev nD) (t : Fin cfg0.N) : (dats m 0 c).after 11 t = qsAt m c t.val t.isLt := by dsimp only [dats]
theorem after0_12 (c : Dev nD) (t : Fin cfg0.N) : (dats m 0 c).after 12 t = coOut (iblk m c 0 t) (iblk m c 2 t) (iblk m c 4 t) (kvuAt m c t) := by dsimp only [dats]
theorem after0_13 (c : Dev nD) (t : Fin cfg0.N) : (dats m 0 c).after 13 t = peAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Window 10 at a later tile holds what the tile before left. -/
theorem before0_10 (c : Dev nD) (t : Fin cfg0.N) (ht : ¬ t.val % 4 = 0) (d) : (dats m 0 c).before 10 t d = kvuAt m c t := by
  have hfr := fresh_of 10 flush10 (fun s hs => by rw [idle10 s, hs]; rfl)
  rw [(dats m 0 c).before_out_traj 10 rfl (fun _ _ => rfl)
    (fun t h0 hi hf => by
      have ht : ¬ t.val % 4 = 0 := by rw [hfr t.val t.isLt.le] at hf; simpa using hf
      rw [after0_10, after0_10]; unfold kvuAt; rw [bat_pred t ht]) t.val t rfl d,
    hfr t.val t.isLt.le, if_neg (by simpa using ht), after0_10]
  unfold kvuAt; rw [bat_pred t ht]

/-- Window 13 at a later tile holds what the tile before left. -/
theorem before0_13 (c : Dev nD) (t : Fin cfg0.N) (ht : ¬ t.val % 4 = 0) (d) : (dats m 0 c).before 13 t d = peAt m c t := by
  have hfr := fresh_of 13 flush13 (fun s hs => by rw [idle13 s, hs]; rfl)
  rw [(dats m 0 c).before_out_traj 13 rfl (fun _ _ => rfl)
    (fun t h0 hi hf => by
      have ht : ¬ t.val % 4 = 0 := by rw [hfr t.val t.isLt.le] at hf; simpa using hf
      rw [after0_13, after0_13]; unfold peAt; rw [bat_pred t ht]) t.val t rfl d,
    hfr t.val t.isLt.le, if_neg (by simpa using ht), after0_13]
  unfold peAt; rw [bat_pred t ht]

/-- Window 11 at a later tile holds what the tile before left. -/
theorem before0_11 (c : Dev nD) (t : Fin cfg0.N) (ht : ¬ t.val % 4 = 0) (d) :
    (dats m 0 c).before 11 t d = qsAt m c (t.val - 1) (lt_of_le_of_lt (Nat.sub_le _ _) t.isLt) := by
  have hfr := fresh_of 11 flush11 (fun s _ => idle11 s)
  rw [(dats m 0 c).before_out_traj 11 rfl (fun _ _ => rfl)
    (fun t h0 hi hf => by
      have hi' : cfg0.idle 11 (cfg0.grid.coords t) = false := idle11 t
      rw [hi'] at hi; exact absurd hi Bool.false_ne_true) t.val t rfl d,
    hfr t.val t.isLt.le, if_neg (by simpa using ht), after0_11]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves0_0 (c : Dev nD) (t : Fin cfg0.N) :
    (dats m 0 c).leavesExact 0 t = owns (c : Thread nD τ) (st0_0 t) fullShare (iblk m c 0 t) := by
  unfold Dat.leavesExact
  rw [show cfg0.idle 0 (cfg0.grid.coords t) = false from rfl, after0_0]
theorem leaves0_1 (c : Dev nD) (t : Fin cfg0.N) :
    (dats m 0 c).leavesExact 1 t = owns (c : Thread nD τ) (st0_1 t) fullShare (iblk m c 1 t) := by
  unfold Dat.leavesExact
  rw [show cfg0.idle 1 (cfg0.grid.coords t) = false from rfl, after0_1]
theorem leaves0_2 (c : Dev nD) (t : Fin cfg0.N) :
    (dats m 0 c).leavesExact 2 t = owns (c : Thread nD τ) (st0_2 t) fullShare (iblk m c 2 t) := by
  unfold Dat.leavesExact
  rw [show cfg0.idle 2 (cfg0.grid.coords t) = false from rfl, after0_2]
theorem leaves0_3 (c : Dev nD) (t : Fin cfg0.N) :
    (dats m 0 c).leavesExact 3 t = owns (c : Thread nD τ) (st0_3 t) fullShare (iblk m c 3 t) := by
  unfold Dat.leavesExact
  rw [show cfg0.idle 3 (cfg0.grid.coords t) = false from rfl, after0_3]
theorem leaves0_4 (c : Dev nD) (t : Fin cfg0.N) :
    (dats m 0 c).leavesExact 4 t = owns (c : Thread nD τ) (st0_4 t) fullShare (iblk m c 4 t) := by
  unfold Dat.leavesExact
  rw [show cfg0.idle 4 (cfg0.grid.coords t) = false from rfl, after0_4]
theorem leaves0_5 (c : Dev nD) (t : Fin cfg0.N) :
    (dats m 0 c).leavesExact 5 t = owns (c : Thread nD τ) (st0_5 t) fullShare (iblk m c 5 t) := by
  unfold Dat.leavesExact
  rw [show cfg0.idle 5 (cfg0.grid.coords t) = false from rfl, after0_5]
theorem leaves0_6 (c : Dev nD) (t : Fin cfg0.N) :
    (dats m 0 c).leavesExact 6 t = owns (c : Thread nD τ) (st0_6 t) fullShare (iblk m c 6 t) := by
  unfold Dat.leavesExact
  rw [show cfg0.idle 6 (cfg0.grid.coords t) = false from rfl, after0_6]
theorem leaves0_7 (c : Dev nD) (t : Fin cfg0.N) :
    (dats m 0 c).leavesExact 7 t = owns (c : Thread nD τ) (st0_7 t) fullShare (iblk m c 7 t) := by
  unfold Dat.leavesExact
  rw [show cfg0.idle 7 (cfg0.grid.coords t) = false from rfl, after0_7]
theorem leaves0_8 (c : Dev nD) (t : Fin cfg0.N) :
    (dats m 0 c).leavesExact 8 t = owns (c : Thread nD τ) (st0_8 t) fullShare (qOut (iblk m c 0 t) (iblk m c 2 t) (iblk m c 4 t)) := by
  unfold Dat.leavesExact
  rw [show cfg0.idle 8 (cfg0.grid.coords t) = false from rfl, after0_8]
theorem leaves0_9 (c : Dev nD) (t : Fin cfg0.N) :
    (dats m 0 c).leavesExact 9 t = owns (c : Thread nD τ) (st0_9 t) fullShare (fkvOut (iblk m c 0 t) (iblk m c 3 t) (iblk m c 5 t)) := by
  unfold Dat.leavesExact
  rw [show cfg0.idle 9 (cfg0.grid.coords t) = false from rfl, after0_9]
theorem leaves0_12 (c : Dev nD) (t : Fin cfg0.N) :
    (dats m 0 c).leavesExact 12 t = owns (c : Thread nD τ) (st0_12 t) fullShare (coOut (iblk m c 0 t) (iblk m c 2 t) (iblk m c 4 t) (kvuAt m c t)) := by
  unfold Dat.leavesExact
  rw [show cfg0.idle 12 (cfg0.grid.coords t) = false from rfl, after0_12]
theorem leaves0_11 (c : Dev nD) (t : Fin cfg0.N) :
    (dats m 0 c).leavesExact 11 t = owns (c : Thread nD τ) (st0_11 t) fullShare (qsAt m c t.val t.isLt) := by
  unfold Dat.leavesExact
  rw [show cfg0.idle 11 (cfg0.grid.coords t) = false from idle11 t, after0_11]
theorem leaves0_10 (c : Dev nD) (t : Fin cfg0.N) (d : (cfg0.win 10).block.Idx → Elt F (cfg0.win 10).elt) :
    owns (c : Thread nD τ) (st0_10 t) fullShare (kvuAt m c t) ⊢ (dats m 0 c).leavesExact 10 t := by
  by_cases h0 : t.val % 4 = 0
  · unfold Dat.leavesExact
    rw [show cfg0.idle 10 (cfg0.grid.coords t) = false from (idle10 t).trans (by rw [h0]; rfl), after0_10]
  · by_cases h3 : t.val % 4 = 3
    · unfold Dat.leavesExact
      rw [show cfg0.idle 10 (cfg0.grid.coords t) = true from (idle10 t).trans (by rw [h3]; rfl),
        show (cfg0.win 10).flush t = true from (flush10 t).trans (by rw [h3]; rfl), after0_10]
    · rw [(dats m 0 c).leavesExact_idle 10 t ((idle10 t).trans (by simpa using h0)) ((flush10 t).trans (by simpa using h3))]
      iintro H
      iexists d
      rw [before0_10 m c t h0 d]
      iexact H
theorem leaves0_13 (c : Dev nD) (t : Fin cfg0.N) (d : (cfg0.win 13).block.Idx → Elt F (cfg0.win 13).elt) :
    owns (c : Thread nD τ) (st0_13 t) fullShare (peAt m c t) ⊢ (dats m 0 c).leavesExact 13 t := by
  by_cases h0 : t.val % 4 = 0
  · unfold Dat.leavesExact
    rw [show cfg0.idle 13 (cfg0.grid.coords t) = false from (idle13 t).trans (by rw [h0]; rfl), after0_13]
  · by_cases h3 : t.val % 4 = 3
    · unfold Dat.leavesExact
      rw [show cfg0.idle 13 (cfg0.grid.coords t) = true from (idle13 t).trans (by rw [h3]; rfl),
        show (cfg0.win 13).flush t = true from (flush13 t).trans (by rw [h3]; rfl), after0_13]
    · rw [(dats m 0 c).leavesExact_idle 13 t ((idle13 t).trans (by simpa using h0)) ((flush13 t).trans (by simpa using h3))]
      iintro H
      iexists d
      rw [before0_13 m c t h0 d]
      iexact H

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7, leaves0_8, leaves0_9, leaves0_11, leaves0_12]
  rw [show (dats m 0 c).Φ t.succ = (dats m 0 c).Φ t.castSucc from rfl,
    show (dats m 0 c).owesAt () t.succ = (dats m 0 c).owesAt () t.castSucc from rfl]
  by_cases h0 : t.val % 4 = 0
  · have h1 : ¬ 1 ≤ t.val % 4 := by omega
    have hk : kvuAt m c t = kvuOut (iblk m c 1 t) (iblk m c 3 t) (iblk m c 5 t) := by unfold kvuAt; rw [bat_first t h0]
    have hp : peAt m c t = peOut (iblk m c 1 t) (iblk m c 3 t) (iblk m c 5 t) (iblk m c 6 t) (iblk m c 7 t) := by
      unfold peAt; rw [bat_first t h0]
    rw [qsAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves0_10 m c t d10); rw [hk]; iexact H10
    isplitl [H11]; · iexact H11
    isplitl [H12]; · rw [hk]; iexact H12
    iapply (leaves0_13 m c t d13); rw [hp]; iexact H13
  · have h1 : 1 ≤ t.val % 4 := by omega
    simp only [before0_10 m c t h0, before0_11 m c t h0, before0_13 m c t h0]
    rw [qsAt_later m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (kvuAt m c t) (qsAt m c (t.val - 1) (lt_of_le_of_lt (Nat.sub_le _ _) t.isLt)) (peAt m c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    isplitl [H12]; · iexists _; iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves0_10 m c t d10); iexact H10
    isplitl [H11]; · iexact H11
    isplitl [H12]; · iexact H12
    iapply (leaves0_13 m c t d13); iexact H13

/-- The region's row for the body is the body at the point's slots. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array ends at what the proof data say, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MainIdeal.Val

end
-- ==== Proof.MainFrame.lean ====
module

public import proofs.«01_k».proof.Proof.Gen.Main.Frame
public import proofs.«01_k».proof.Proof.Gen.Main.Skeleton
public import Idealize.ShloMosaic.Lib.Claim

/-! The frame of the call as printed, its outputs' contents left unnamed. -/

@[expose] public section

-- membership in a rectangle of production extents (`View.cover_of_tiled`): the elaborator's structural look
-- recurses once per coordinate of the long axes
set_option maxRecDepth 16384

noncomputable section

namespace Cert.Main.Frm

open Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run that says what the staged arrays hold leaves every argument array as it was: a staged input by
    `RDat.FramePost.arr_in`, an array that no window stages by the second half of the statement. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ 1 ≤ t.val % 4)

/-! ## Where the windows are idle  -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S49x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4096x256 .f32 := win0_13.stage (cfg0.slots t 13)
abbrev hs0_13 (t : Fin cfg0.N) : (ms0_13 t).IsWhole := hstage0_13 ((cfg0.slots t 13).cast nbuf0_13)

set_option maxHeartbeats 1000000 in
/-- The body in case A (`scf.if` 0 taken, `scf.if` 1 not taken: points 0, 4): from whole staging buffers, the inputs' at their contents and the outputs' at
    anything, it runs to its end with the inputs' as they were and something in the outputs'. -/
theorem kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x512 .f32) (harg7 : arg7.IsWhole) (arg8 : Memref sig .tc .vmem S49x256 .f32) (harg8 : arg8.IsWhole) (arg9 : Memref sig .tc .vmem S1x256 .f32) (harg9 : arg9.IsWhole) (arg10 : Memref sig .tc .vmem S1x1024x256 .f32) (harg10 : arg10.IsWhole) (arg11 : Memref sig .tc .vmem S1x1024x512 .f32) (harg11 : arg11.IsWhole) (arg12 : Memref sig .tc .vmem S1x1024x512 .f32) (harg12 : arg12.IsWhole) (arg13 : Memref sig .tc .vmem S1x1x256 .f32) (harg13 : arg13.IsWhole) (arg14 : Memref sig .tc .vmem S1x1024x256 .f32) (harg14 : arg14.IsWhole) (arg15 : Memref sig .tc .vmem S1x4096x256 .f32) (harg15 : arg15.IsWhole) (hc0 : cond0_0 i) (hc1 : ¬cond0_1 i)
    (x0 : Vec F S1x256x1024 .f32) (x1 : Vec F S1x256x1024 .f32) (x2 : Vec F S256x256 .f32) (x3 : Vec F S512x256 .f32) (x4 : Vec F S1x256 .f32) (x5 : Vec F S1x512 .f32) (x6 : Vec F S49x256 .f32) (x7 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__main_kernel_eq_skeleton]; unfold cc0__main_kernel_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

set_option maxHeartbeats 1000000 in
/-- The body in case B (`scf.if` 0 not taken, `scf.if` 1 taken: points 1, 2, 3, 5, 6, 7): from whole staging buffers, the inputs' at their contents and the outputs' at
    anything, it runs to its end with the inputs' as they were and something in the outputs'. -/
theorem kernelRun0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x512 .f32) (harg7 : arg7.IsWhole) (arg8 : Memref sig .tc .vmem S49x256 .f32) (harg8 : arg8.IsWhole) (arg9 : Memref sig .tc .vmem S1x256 .f32) (harg9 : arg9.IsWhole) (arg10 : Memref sig .tc .vmem S1x1024x256 .f32) (harg10 : arg10.IsWhole) (arg11 : Memref sig .tc .vmem S1x1024x512 .f32) (harg11 : arg11.IsWhole) (arg12 : Memref sig .tc .vmem S1x1024x512 .f32) (harg12 : arg12.IsWhole) (arg13 : Memref sig .tc .vmem S1x1x256 .f32) (harg13 : arg13.IsWhole) (arg14 : Memref sig .tc .vmem S1x1024x256 .f32) (harg14 : arg14.IsWhole) (arg15 : Memref sig .tc .vmem S1x4096x256 .f32) (harg15 : arg15.IsWhole) (hc0 : ¬cond0_0 i) (hc1 : cond0_1 i)
    (x0 : Vec F S1x256x1024 .f32) (x1 : Vec F S1x256x1024 .f32) (x2 : Vec F S256x256 .f32) (x3 : Vec F S512x256 .f32) (x4 : Vec F S1x256 .f32) (x5 : Vec F S1x512 .f32) (x6 : Vec F S49x256 .f32) (x7 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__main_kernel_eq_skeleton]; unfold cc0__main_kernel_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The pipeline's proof data -/

/-- The windows of the outputs (8 to 13), of whose contents nothing is said here. -/
def forgets0 : Fin 14 → Bool := fun w => w.val == 8 || w.val == 9 || w.val == 10 || w.val == 11 || w.val == 12 || w.val == 13

/-- The proof data on core `c`: the arrays as the region finds them; after the body at point `t` each input's buffer at its
    block, and the outputs' without a name. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (the windows one by one): -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  by_cases h0 : t.val % 4 = 0
  · by_cases h1 : 1 ≤ t.val % 4
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iintro ⟨H0, H1, H2, H3, H4, H5, H6, H7, H8, H9, H10, H11, H12, H13⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · by_cases h1 : 1 ≤ t.val % 4
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iintro ⟨H0, H1, H2, H3, H4, H5, H6, H7, H8, H9, H10, H11, H12, H13⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: what the arrays hold at the end, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the input arrays unchanged and every buffer that no window stages as the region found it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Main.Frm

end
-- ==== Proof.MainPure.lean ====
module

public import proofs.«01_k».proof.Proof.MainRun
public import Idealize.ShloMosaic.Lib.Pointwise

/-! What the body stores, read entry by entry over the extended reals. -/

@[expose] public section

set_option maxRecDepth 16384

noncomputable section

namespace Cert.MainIdeal.Val

open Idealize.ShloMosaic Idealize.ShloMosaic.TcCoe Idealize.SL.Sem
open Cert.MainIdeal Cert.MainIdeal.Gen

/-- The scale of the scores, as the programs write it. -/
abbrev scale : EReal := Ideal.ofBits .f32 0x3E3504F3#32
/-- Three quarters, as the program writes it. -/
abbrev c75 : EReal := Ideal.ofBits .f32 0x3F400000#32
/-- One quarter, as the program writes it. -/
abbrev c25 : EReal := Ideal.ofBits .f32 0x3E800000#32

/-- One entry of a 1x1 convolution: the pixel's channels against one row of the weights, and the bias. -/
def lin {n : ℕ} (x : Fin 256 → EReal) (w : Fin n → Fin 256 → EReal) (b : Fin n → EReal) (o : Fin n) : EReal :=
  (∑ k, x k * w o k) + b o

/-- One entry of the coarse attention of one query: scores, weights and values of one head. -/
def att (q : Fin 32 → EReal) (k : Fin 1024 → Fin 32 → EReal) (v : Fin 1024 → EReal) : EReal :=
  Ideal.div (∑ m, Ideal.exp (∑ e, q e * k m e) * v m) (∑ m, Ideal.exp (∑ e, q e * k m e))

theorem q_at (x : FVec Ideal S1x256x1024 .f32) (qw : FVec Ideal S256x256 .f32) (qb : FVec Ideal S1x256 .f32) (r : Fin 1024) (c : Fin 256) :
    k0_pay28 (F := Ideal) x qw qb (ix2 r c)
      = lin (fun k => x (ix3 0 k r)) (fun o k => qw (ix2 o k)) (fun o => qb (ix2 0 o)) c * scale := by
  pointwise [k0_pay28, k0_pay27, lin]

theorem qOut_at (x : FVec Ideal S1x256x1024 .f32) (qw : FVec Ideal S256x256 .f32) (qb : FVec Ideal S1x256 .f32) (r : Fin 1024) (c : Fin 256) :
    qOut (F := Ideal) x qw qb (ix3 0 r c)
      = lin (fun k => x (ix3 0 k r)) (fun o k => qw (ix2 o k)) (fun o => qb (ix2 0 o)) c * scale := by
  rw [← q_at]
  pointwise [qOut, k0_pay29]

theorem fkvOut_at (x : FVec Ideal S1x256x1024 .f32) (kw : FVec Ideal S512x256 .f32) (kb : FVec Ideal S1x512 .f32) (r : Fin 1024) (c : Fin 512) :
    fkvOut (F := Ideal) x kw kb (ix3 0 r c)
      = lin (fun k => x (ix3 0 k r)) (fun o k => kw (ix2 o k)) (fun o => kb (ix2 0 o)) c := by
  pointwise [fkvOut, k0_pay30, k0_pay27, lin]

theorem kv_at (u : FVec Ideal S1x256x1024 .f32) (kw : FVec Ideal S512x256 .f32) (kb : FVec Ideal S1x512 .f32) (r : Fin 1024) (c : Fin 512) :
    k0_pay2 (F := Ideal) u kw kb (ix2 r c)
      = lin (fun k => u (ix3 0 k r)) (fun o k => kw (ix2 o k)) (fun o => kb (ix2 0 o)) c := by
  pointwise [k0_pay2, lin]

theorem kvuOut_at (u : FVec Ideal S1x256x1024 .f32) (kw : FVec Ideal S512x256 .f32) (kb : FVec Ideal S1x512 .f32) (r : Fin 1024) (c : Fin 512) :
    kvuOut (F := Ideal) u kw kb (ix3 0 r c)
      = lin (fun k => u (ix3 0 k r)) (fun o k => kw (ix2 o k)) (fun o => kb (ix2 0 o)) c := by
  rw [← kv_at]
  pointwise [kvuOut, k0_pay3]

theorem qsOut_at (x : FVec Ideal S1x256x1024 .f32) (qw : FVec Ideal S256x256 .f32) (qb : FVec Ideal S1x256 .f32) (c : Fin 256) :
    qsOut (F := Ideal) x qw qb (ix3 0 0 c) = ∑ r : Fin 1024, qOut (F := Ideal) x qw qb (ix3 0 r c) := by
  pointwise [qsOut, k0_pay4, k0_pay31, qOut, k0_pay29]

theorem qsAcc_at (x : FVec Ideal S1x256x1024 .f32) (qw : FVec Ideal S256x256 .f32) (qb : FVec Ideal S1x256 .f32) (s : FVec Ideal S1x1x256 .f32) (c : Fin 256) :
    qsAcc (F := Ideal) x qw qb s (ix3 0 0 c) = s (ix3 0 0 c) + ∑ r : Fin 1024, qOut (F := Ideal) x qw qb (ix3 0 r c) := by
  pointwise [qsAcc, k0_pay33, k0_pay31, qOut, k0_pay29]

set_option maxHeartbeats 1000000 in
theorem coOut_at (x : FVec Ideal S1x256x1024 .f32) (qw : FVec Ideal S256x256 .f32) (qb : FVec Ideal S1x256 .f32) (kv : FVec Ideal S1x1024x512 .f32)
    (r : Fin 1024) (h : Fin 8) (d : Fin 32) :
    coOut (F := Ideal) x qw qb kv (ix3 0 r ⟨32 * h.val + d.val, by omega⟩)
      = att (fun e => qOut (F := Ideal) x qw qb (ix3 0 r ⟨32 * h.val + e.val, by omega⟩))
          (fun m e => kv (ix3 0 m ⟨64 * h.val + e.val, by omega⟩)) (fun m => kv (ix3 0 m ⟨64 * h.val + 32 + d.val, by omega⟩)) := by
  have hq : ∀ e, qOut (F := Ideal) x qw qb (ix3 0 r e) = k0_pay28 (F := Ideal) x qw qb (ix2 r e) := fun e => by
    rw [qOut_at, q_at]
  simp only [hq]
  generalize hQ : k0_pay28 (F := Ideal) x qw qb = Q
  unfold coOut
  rw [hQ]
  pointwise [k0_pay1, k0_pay34, k0_pay35, k0_pay36, k0_pay37, k0_pay38, k0_pay39, k0_pay40, k0_pay41, k0_pay42, k0_pay43, k0_pay44, k0_pay45, k0_pay46, att]
  fin_vals h with hh
  all_goals
    repeat rw [dif_neg (by omega)]
    try rw [dif_pos (by omega)]
    simp only [hh, Nat.sub_sub, Nat.reduceMul, Nat.reduceAdd, Nat.add_sub_cancel_left, Nat.zero_add, Nat.mul_zero]

end Cert.MainIdeal.Val

end
-- ==== Proof.MainPe.lean ====
module

public import proofs.«01_k».proof.Proof.MainPure

/-! The positional term the body stores, read entry by entry over the extended reals. -/

@[expose] public section

set_option maxRecDepth 16384

noncomputable section

namespace Cert.MainIdeal.Val

open Idealize.ShloMosaic Idealize.ShloMosaic.TcCoe Idealize.SL.Sem
open Cert.MainIdeal Cert.MainIdeal.Gen

/-- The neighbour an upsampled row takes its quarter from: the row before for an even one, the row after for an odd one, kept in range. -/
def nbr (a : Fin 32) (s : Fin 2) : Fin 32 :=
  if s.val < 1 then ⟨a.val - 1, by omega⟩ else ⟨min (a.val + 1) 31, by omega⟩

/-- One row of the doubled image: three quarters of its own row and a quarter of the neighbour. -/
def up (A : Fin 32 → EReal) (a : Fin 32) (s : Fin 2) : EReal := c75 * A a + c25 * A (nbr a s)

/-- One entry of the padded image. -/
def padded (v : Fin 32 → Fin 32 → EReal) (y x : ℕ) : EReal :=
  if h : (3 ≤ y ∧ y < 35) ∧ (3 ≤ x ∧ x < 35) then v ⟨y - 3, by omega⟩ ⟨x - 3, by omega⟩ else 0

/-- One entry of the 7x7 depthwise convolution over the padded image of one channel. -/
def conv (P : ℕ → ℕ → EReal) (w : Fin 49 → EReal) (b : EReal) (y x : Fin 32) : EReal :=
  b + ∑ i : Fin 7, ∑ j : Fin 7, P (i.val + y.val) (j.val + x.val) * w ⟨7 * i.val + j.val, by omega⟩

theorem up_split (A : Fin 32 → EReal) (a : Fin 32) (s : Fin 2) :
    up A a s = if s.val < 1 then c75 * A a + c25 * (if h : a.val < 1 then A a else A ⟨a.val - 1, by omega⟩)
      else c75 * A a + c25 * (if h : a.val < 31 then A ⟨1 + a.val, by omega⟩ else A ⟨31 + (a.val - 31), by omega⟩) := by
  unfold up nbr
  split_ifs <;> congr 3 <;> apply Fin.ext <;> simp only [] <;> omega

theorem up_rows_at (v190 v191 v192 v193 : FVec Ideal S40x32x256 .f32) (v514 : FVec Ideal S32x32x256 .f32) (v516 v523 v530 v537 : FVec Ideal S1x256 .f32)
    (a : Fin 32) (s : Fin 2) (w : Fin 32) (c : Fin 256) :
    k0_pay26 (F := Ideal) v190 v191 v192 v193 v514 v516 v523 v530 v537 (ix3 ⟨2 * a.val + s.val, by omega⟩ w c)
      = up (fun y => v514 (ix3 y w c) + v190 (ix3 ⟨6 + y.val, by omega⟩ w c) * v516 (ix2 0 c) + v191 (ix3 ⟨6 + y.val, by omega⟩ w c) * v523 (ix2 0 c)
          + v192 (ix3 ⟨6 + y.val, by omega⟩ w c) * v530 (ix2 0 c) + v193 (ix3 ⟨6 + y.val, by omega⟩ w c) * v537 (ix2 0 c)) a s := by
  rw [up_split]
  pointwise [k0_pay26]
  split_ifs <;> rfl

theorem up_cols_at (v : FVec Ideal S64x32x256 .f32) (i : Fin 64) (a : Fin 32) (s : Fin 2) (c : Fin 256) :
    k0_pay32 (F := Ideal) v (ix3 0 ⟨64 * i.val + (2 * a.val + s.val), by omega⟩ c) = up (fun w => v (ix3 i w c)) a s := by
  rw [up_split]
  pointwise [k0_pay32]
  split_ifs <;> rfl

/-- The values of the eight heads side by side, one image. -/
def heads (K : FVec Ideal S1024x512 .f32) : FVec Ideal S32x32x256 .f32 :=
  concatenate S32x32x256 2 [⟨S32x32x32, shapeCast S32x32x32 (extractStridedSlice S1024x32 ![0, 32] K slices_S1024x512_o0_32_S1024x32) shapeCasts_S1024x32_S32x32x32⟩, ⟨S32x32x32, shapeCast S32x32x32 (extractStridedSlice S1024x32 ![0, 96] K slices_S1024x512_o0_96_S1024x32) shapeCasts_S1024x32_S32x32x32⟩, ⟨S32x32x32, shapeCast S32x32x32 (extractStridedSlice S1024x32 ![0, 160] K slices_S1024x512_o0_160_S1024x32) shapeCasts_S1024x32_S32x32x32⟩, ⟨S32x32x32, shapeCast S32x32x32 (extractStridedSlice S1024x32 ![0, 224] K slices_S1024x512_o0_224_S1024x32) shapeCasts_S1024x32_S32x32x32⟩, ⟨S32x32x32, shapeCast S32x32x32 (extractStridedSlice S1024x32 ![0, 288] K slices_S1024x512_o0_288_S1024x32) shapeCasts_S1024x32_S32x32x32⟩, ⟨S32x32x32, shapeCast S32x32x32 (extractStridedSlice S1024x32 ![0, 352] K slices_S1024x512_o0_352_S1024x32) shapeCasts_S1024x32_S32x32x32⟩, ⟨S32x32x32, shapeCast S32x32x32 (extractStridedSlice S1024x32 ![0, 416] K slices_S1024x512_o0_416_S1024x32) shapeCasts_S1024x32_S32x32x32⟩, ⟨S32x32x32, shapeCast S32x32x32 (extractStridedSlice S1024x32 ![0, 480] K slices_S1024x512_o0_480_S1024x32) shapeCasts_S1024x32_S32x32x32⟩] concatenates_S32x32x32_S32x32x32_S32x32x32_S32x32x32_S32x32x32_S32x32x32_S32x32x32_S32x32x32_S32x32x256_d2

set_option maxHeartbeats 1000000 in
theorem heads_at (K : FVec Ideal S1024x512 .f32) (y x : Fin 32) (h : Fin 8) (d : Fin 32) :
    heads K (ix3 y x ⟨32 * h.val + d.val, by omega⟩) = K (ix2 ⟨32 * y.val + x.val, by omega⟩ ⟨64 * h.val + 32 + d.val, by omega⟩) := by
  have hyx : y.val * 32 + x.val = 32 * y.val + x.val := by omega
  pointwise [heads]
  simp only [hyx]
  fin_vals h with hh
  all_goals
    repeat rw [dif_neg (by omega)]
    try rw [dif_pos (by omega)]
    simp only [hh, Nat.sub_sub, Nat.reduceMul, Nat.reduceAdd, Nat.add_sub_cancel_left, Nat.zero_add, Nat.mul_zero]

set_option maxHeartbeats 1000000 in
theorem pad_at (u : FVec Ideal S1x256x1024 .f32) (kw : FVec Ideal S512x256 .f32) (kb : FVec Ideal S1x512 .f32) (y x : Fin 40) (h : Fin 8) (d : Fin 32) :
    k0_pay5 (F := Ideal) u kw kb (ix3 y x ⟨32 * h.val + d.val, by omega⟩)
      = padded (fun y x => k0_pay2 (F := Ideal) u kw kb (ix2 ⟨32 * y.val + x.val, by omega⟩ ⟨64 * h.val + 32 + d.val, by omega⟩)) y.val x.val := by
  have hV := fun y x => heads_at (k0_pay2 (F := Ideal) u kw kb) y x h d
  unfold k0_pay5
  unfold heads at hV
  generalize k0_pay2 (F := Ideal) u kw kb = K at hV ⊢
  generalize concatenate S32x32x256 2 _ _ = V at hV ⊢
  have hz : ((((0#32 : BitVec 32).toInt : ℝ)) : EReal) = 0 := by simp
  pointwise [padded]
  simp only [hz]
  split_ifs <;> first | rfl | (exfalso; omega) | (rw [hV, dif_pos (by omega)])

set_option maxHeartbeats 4000000 in
theorem peOut_at (u : FVec Ideal S1x256x1024 .f32) (kw : FVec Ideal S512x256 .f32) (kb : FVec Ideal S1x512 .f32) (pw : FVec Ideal S49x256 .f32)
    (pb : FVec Ideal S1x256 .f32) (a b : Fin 32) (s t : Fin 2) (h : Fin 8) (d : Fin 32) :
    peOut (F := Ideal) u kw kb pw pb (ix3 0 ⟨64 * (2 * a.val + s.val) + (2 * b.val + t.val), by omega⟩ ⟨32 * h.val + d.val, by omega⟩)
      = up (fun x => up (fun y => conv (padded (fun y x => k0_pay2 (F := Ideal) u kw kb (ix2 ⟨32 * y.val + x.val, by omega⟩ ⟨64 * h.val + 32 + d.val, by omega⟩)))
          (fun n => pw (ix2 n ⟨32 * h.val + d.val, by omega⟩)) (pb (ix2 0 ⟨32 * h.val + d.val, by omega⟩)) y x) a s) b t := by
  have hp := pad_at u kw kb
  have h6 : k0_pay6 (F := Ideal) u kw kb = extractStridedSlice S40x32x256 ![0, 0, 0] (k0_pay5 u kw kb) slices_S40x40x256_o0_0_0_S40x32x256 := rfl
  unfold peOut
  rw [h6]
  generalize k0_pay5 (F := Ideal) u kw kb = P at hp ⊢
  generalize hR : k0_pay25 (F := Ideal) _ _ _ _ _ _ _ _ _ _ _ _ _ _ _ = R
  refine (up_cols_at _ ⟨2 * a.val + s.val, by omega⟩ b t _).trans ?_
  congr 1
  funext x
  refine (up_rows_at _ _ _ _ _ _ _ _ _ a s x _).trans ?_
  congr 1
  funext y
  have hq : ∀ i j : ℕ, (hi : i < 40) → (hj : j < 40) → P (ix3 ⟨i, hi⟩ ⟨j, hj⟩ ⟨32 * h.val + d.val, by omega⟩)
      = padded (fun y x => k0_pay2 (F := Ideal) u kw kb (ix2 ⟨32 * y.val + x.val, by omega⟩ ⟨64 * h.val + 32 + d.val, by omega⟩)) i j :=
    fun i j hi hj => hp ⟨_, hi⟩ ⟨_, hj⟩ h d
  rw [← hR]
  clear hR hp
  pointwise [k0_pay25, k0_pay24, k0_pay23, k0_pay22, k0_pay21, k0_pay20, k0_pay19, k0_pay18, k0_pay17, k0_pay16, k0_pay15, k0_pay14, k0_pay13, k0_pay7, k0_pay8, k0_pay9, k0_pay10, k0_pay11, k0_pay12]
  simp only [hq, conv, Fin.sum_univ_seven, ← add_assoc, Fin.coe_ofNat_eq_mod, Nat.reduceMod, Nat.reduceMul, Nat.reduceAdd, Nat.zero_add, Nat.add_zero]
  rfl

end Cert.MainIdeal.Val

end
-- ==== Proof.MainBlocks.lean ====
module

public import proofs.«01_k».proof.Proof.MainData
public import proofs.«01_k».proof.Proof.MainPe
public import Idealize.ShloMosaic.Lib.Claim

/-! The blocks the body reads, and what it stores over them, as functions of the arguments. -/

@[expose] public section

set_option maxRecDepth 16384

noncomputable section

namespace Cert.MainIdeal.Val

open Idealize.ShloMosaic Idealize.ShloMosaic.TcCoe Idealize.SL.Sem
open Idealize.ShloMosaic.Pipeline (Dat)
open Cert.MainIdeal Cert.MainIdeal.Gen

variable (m : (ℓ : Loc nD τ sig) → Buf (Elt Ideal) ℓ)

/-- The channels of one fine pixel. -/
def xs (X : FVec Ideal S2x256x64x64 .f32) (b : Fin 2) (n : Fin 4096) (k : Fin 256) : EReal :=
  X (ix4 b k ⟨n.val / 64, by omega⟩ ⟨n.val % 64, by omega⟩)
/-- The channels of one coarse pixel. -/
def us (U : FVec Ideal S2x256x32x32 .f32) (b : Fin 2) (n : Fin 1024) (k : Fin 256) : EReal :=
  U (ix4 b k ⟨n.val / 32, by omega⟩ ⟨n.val % 32, by omega⟩)

theorem idx : ∀ t : Fin cfg0.N, win0_0.index t = ![t.val / 4, 0, t.val % 4] ∧ win0_1.index t = ![t.val / 4, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val / 4, t.val % 4, 0] ∧ win0_9.index t = ![t.val / 4, t.val % 4, 0]
    ∧ win0_10.index t = ![t.val / 4, 0, 0] ∧ win0_11.index t = ![t.val / 4, 0, 0] ∧ win0_12.index t = ![t.val / 4, t.val % 4, 0]
    ∧ win0_13.index t = ![t.val / 4, 0, 0] ∧ t.val / 4 < 2 ∧ t.val % 4 < 4 :=
  (by decide +kernel : ∀ t : Fin grid0.N, _)

theorem quot_lt (t : Fin cfg0.N) : t.val / 4 < 2 := (idx t).2.2.2.2.2.2.2.2.2.2.2.2.2.2.1
theorem rem_lt (t : Fin cfg0.N) : t.val % 4 < 4 := Nat.mod_lt _ (by decide)

theorem blk_x (c : Dev nD) (t : Fin cfg0.N) (k : Fin 256) (r : Fin 1024) :
    iblk m c 0 t (ix3 0 k r) = xs (m ((c : Thread nD τ).loc main_arg0)) ⟨t.val / 4, quot_lt t⟩ ⟨t.val % 4 * 1024 + r.val, by omega⟩ k := by
  unfold xs
  blk_simp [iblk, idx t]
  entry_read
  pointwise []
  blk_ext [idx t]

theorem blk_u (c : Dev nD) (t : Fin cfg0.N) (k : Fin 256) (r : Fin 1024) :
    iblk m c 1 t (ix3 0 k r) = us (m ((c : Thread nD τ).loc main_arg1)) ⟨t.val / 4, quot_lt t⟩ r k := by
  unfold us
  blk_simp [iblk, idx t]
  entry_read
  pointwise []
  blk_ext [idx t]

theorem blk_qw (c : Dev nD) (t : Fin cfg0.N) (o k : Fin 256) :
    iblk m c 2 t (ix2 o k) = m ((c : Thread nD τ).loc main_arg2) (ix4 o k 0 0) := by
  blk_simp [iblk, idx t]
  entry_read
  pointwise []
  blk_ext [idx t]

theorem blk_kw (c : Dev nD) (t : Fin cfg0.N) (o : Fin 512) (k : Fin 256) :
    iblk m c 3 t (ix2 o k) = m ((c : Thread nD τ).loc main_arg4) (ix4 o k 0 0) := by
  blk_simp [iblk, idx t]
  entry_read
  pointwise []
  blk_ext [idx t]

theorem blk_qb (c : Dev nD) (t : Fin cfg0.N) (o : Fin 256) :
    iblk m c 4 t (ix2 0 o) = m ((c : Thread nD τ).loc main_arg3) (ix1 o) := by
  blk_simp [iblk, idx t]
  entry_read
  pointwise []
  blk_ext [idx t]

theorem blk_kb (c : Dev nD) (t : Fin cfg0.N) (o : Fin 512) :
    iblk m c 5 t (ix2 0 o) = m ((c : Thread nD τ).loc main_arg5) (ix1 o) := by
  blk_simp [iblk, idx t]
  entry_read
  pointwise []
  blk_ext [idx t]

theorem blk_pw (c : Dev nD) (t : Fin cfg0.N) (i j : Fin 7) (o : Fin 256) :
    iblk m c 6 t (ix2 ⟨7 * i.val + j.val, by omega⟩ o) = m ((c : Thread nD τ).loc main_arg6) (ix4 o 0 i j) := by
  blk_simp [iblk, idx t]
  entry_read
  pointwise []
  blk_ext [idx t]

theorem blk_pb (c : Dev nD) (t : Fin cfg0.N) (o : Fin 256) :
    iblk m c 7 t (ix2 0 o) = m ((c : Thread nD τ).loc main_arg7) (ix1 o) := by
  blk_simp [iblk, idx t]
  entry_read
  pointwise []
  blk_ext [idx t]

/-- The queries of one fine pixel, already scaled. -/
def queries (X : FVec Ideal S2x256x64x64 .f32) (W : FVec Ideal S256x256x1x1 .f32) (b : FVec Ideal S256 .f32) (i : Fin 2) (n : Fin 4096) (o : Fin 256) : EReal :=
  lin (xs X i n) (fun o k => W (ix4 o k 0 0)) (fun o => b (ix1 o)) o * scale

/-- The keys and values of one fine pixel. -/
def fineKv (X : FVec Ideal S2x256x64x64 .f32) (W : FVec Ideal S512x256x1x1 .f32) (b : FVec Ideal S512 .f32) (i : Fin 2) (n : Fin 4096) (o : Fin 512) : EReal :=
  lin (xs X i n) (fun o k => W (ix4 o k 0 0)) (fun o => b (ix1 o)) o

/-- The keys and values of one coarse pixel. -/
def coarseKv (U : FVec Ideal S2x256x32x32 .f32) (W : FVec Ideal S512x256x1x1 .f32) (b : FVec Ideal S512 .f32) (i : Fin 2) (n : Fin 1024) (o : Fin 512) : EReal :=
  lin (us U i n) (fun o k => W (ix4 o k 0 0)) (fun o => b (ix1 o)) o

theorem q_blk (c : Dev nD) (t : Fin cfg0.N) (r : Fin 1024) (o : Fin 256) :
    qOut (F := Ideal) (iblk m c 0 t) (iblk m c 2 t) (iblk m c 4 t) (ix3 0 r o)
      = queries (m ((c : Thread nD τ).loc main_arg0)) (m ((c : Thread nD τ).loc main_arg2)) (m ((c : Thread nD τ).loc main_arg3))
          ⟨t.val / 4, quot_lt t⟩ ⟨t.val % 4 * 1024 + r.val, by omega⟩ o := by
  refine (qOut_at (iblk m c 0 t) (iblk m c 2 t) (iblk m c 4 t) r o).trans ?_
  simp only [blk_x, blk_qw, blk_qb]
  rfl

theorem fkv_blk (c : Dev nD) (t : Fin cfg0.N) (r : Fin 1024) (o : Fin 512) :
    fkvOut (F := Ideal) (iblk m c 0 t) (iblk m c 3 t) (iblk m c 5 t) (ix3 0 r o)
      = fineKv (m ((c : Thread nD τ).loc main_arg0)) (m ((c : Thread nD τ).loc main_arg4)) (m ((c : Thread nD τ).loc main_arg5))
          ⟨t.val / 4, quot_lt t⟩ ⟨t.val % 4 * 1024 + r.val, by omega⟩ o := by
  refine (fkvOut_at (iblk m c 0 t) (iblk m c 3 t) (iblk m c 5 t) r o).trans ?_
  simp only [blk_x, blk_kw, blk_kb]
  rfl

theorem kvu_blk (c : Dev nD) (t : Fin cfg0.N) (r : Fin 1024) (o : Fin 512) :
    kvuOut (F := Ideal) (iblk m c 1 t) (iblk m c 3 t) (iblk m c 5 t) (ix3 0 r o)
      = coarseKv (m ((c : Thread nD τ).loc main_arg1)) (m ((c : Thread nD τ).loc main_arg4)) (m ((c : Thread nD τ).loc main_arg5))
          ⟨t.val / 4, quot_lt t⟩ r o := by
  refine (kvuOut_at (iblk m c 1 t) (iblk m c 3 t) (iblk m c 5 t) r o).trans ?_
  simp only [blk_u, blk_kw, blk_kb]
  rfl

end Cert.MainIdeal.Val

end
-- ==== Proof.MainValue.lean ====
module

public import proofs.«01_k».proof.Proof.MainBlocks

/-! The six result arrays of the call, entry by entry, as functions of the arguments. -/

@[expose] public section

set_option maxRecDepth 16384

noncomputable section

namespace Cert.MainIdeal.Val

open Idealize.ShloMosaic Idealize.ShloMosaic.TcCoe Idealize.SL.Sem
open Idealize.ShloMosaic.Pipeline (Dat)
open Cert.MainIdeal Cert.MainIdeal.Gen

variable (m : (ℓ : Loc nD τ sig) → Buf (Elt Ideal) ℓ)

theorem final8 (c : Dev nD) (i : Fin 2) (n : Fin 4096) (o : Fin 256) : (dats m 0 c).arrAt 8 (cfgs 0).N (ix3 i n o)
    = queries (m ((c : Thread nD τ).loc main_arg0)) (m ((c : Thread nD τ).loc main_arg2)) (m ((c : Thread nD τ).loc main_arg3)) i n o := by
  have h : (dats m 0 c).arrAt 8 (cfgs 0).N = (fun j => queries (m ((c : Thread nD τ).loc main_arg0)) (m ((c : Thread nD τ).loc main_arg2)) (m ((c : Thread nD τ).loc main_arg3)) (j 0) (j 1) (j 2) : FVec Ideal S2x4096x256 .f32) := by
    refine (dats m 0 c).arrAt_eq_of_covers 8 _ (by decide +kernel) fun t _ y => ?_
    blk_simp
    rw [after0_8]
    obtain ⟨r, o, rfl⟩ : ∃ (r : Fin 1024) (o : Fin 256), y = ix3 0 r o := ⟨y 1, y 2, by blk_ext⟩
    refine (q_blk m c t r o).trans ?_
    have e : (win0_8.blk t).view.emb (ix3 0 r o) = ix3 ⟨t.val / 4, quot_lt t⟩ ⟨t.val % 4 * 1024 + r.val, by omega⟩ o := by
      blk_ext [idx t]
    rw [e]
    rfl
  exact congrFun h _

theorem final9 (c : Dev nD) (i : Fin 2) (n : Fin 4096) (o : Fin 512) : (dats m 0 c).arrAt 9 (cfgs 0).N (ix3 i n o)
    = fineKv (m ((c : Thread nD τ).loc main_arg0)) (m ((c : Thread nD τ).loc main_arg4)) (m ((c : Thread nD τ).loc main_arg5)) i n o := by
  have h : (dats m 0 c).arrAt 9 (cfgs 0).N = (fun j => fineKv (m ((c : Thread nD τ).loc main_arg0)) (m ((c : Thread nD τ).loc main_arg4)) (m ((c : Thread nD τ).loc main_arg5)) (j 0) (j 1) (j 2) : FVec Ideal S2x4096x512 .f32) := by
    refine (dats m 0 c).arrAt_eq_of_covers 9 _ (by decide +kernel) fun t _ y => ?_
    blk_simp
    rw [after0_9]
    obtain ⟨r, o, rfl⟩ : ∃ (r : Fin 1024) (o : Fin 512), y = ix3 0 r o := ⟨y 1, y 2, by blk_ext⟩
    refine (fkv_blk m c t r o).trans ?_
    have e : (win0_9.blk t).view.emb (ix3 0 r o) = ix3 ⟨t.val / 4, quot_lt t⟩ ⟨t.val % 4 * 1024 + r.val, by omega⟩ o := by
      blk_ext [idx t]
    rw [e]
    rfl
  exact congrFun h _

theorem bat_quot (t : Fin cfg0.N) : (bat t).val / 4 = t.val / 4 := by show t.val / 4 * 4 / 4 = t.val / 4; omega

theorem kvuAt_at (c : Dev nD) (t : Fin cfg0.N) (r : Fin 1024) (o : Fin 512) :
    kvuAt m c t (ix3 0 r o) = coarseKv (m ((c : Thread nD τ).loc main_arg1)) (m ((c : Thread nD τ).loc main_arg4)) (m ((c : Thread nD τ).loc main_arg5)) ⟨t.val / 4, quot_lt t⟩ r o := by
  refine (kvu_blk m c (bat t) r o).trans ?_
  simp only [bat_quot]

theorem final10 (c : Dev nD) (i : Fin 2) (n : Fin 1024) (o : Fin 512) : (dats m 0 c).arrAt 10 (cfgs 0).N (ix3 i n o)
    = coarseKv (m ((c : Thread nD τ).loc main_arg1)) (m ((c : Thread nD τ).loc main_arg4)) (m ((c : Thread nD τ).loc main_arg5)) i n o := by
  have h : (dats m 0 c).arrAt 10 (cfgs 0).N = (fun j => coarseKv (m ((c : Thread nD τ).loc main_arg1)) (m ((c : Thread nD τ).loc main_arg4)) (m ((c : Thread nD τ).loc main_arg5)) (j 0) (j 1) (j 2) : FVec Ideal S2x1024x512 .f32) := by
    refine (dats m 0 c).arrAt_eq_of_covers 10 _ (by decide +kernel) fun t _ y => ?_
    blk_simp
    rw [after0_10]
    obtain ⟨r, o, rfl⟩ : ∃ (r : Fin 1024) (o : Fin 512), y = ix3 0 r o := ⟨y 1, y 2, by blk_ext⟩
    refine (kvuAt_at m c t r o).trans ?_
    have e : (win0_10.blk t).view.emb (ix3 0 r o) = ix3 ⟨t.val / 4, quot_lt t⟩ r o := by
      blk_ext [idx t]
    rw [e]
    rfl
  exact congrFun h _

/-- The sum of one tile's queries. -/
def tileSum (c : Dev nD) (t : Fin cfg0.N) (o : Fin 256) : EReal :=
  ∑ r : Fin 1024, queries (m ((c : Thread nD τ).loc main_arg0)) (m ((c : Thread nD τ).loc main_arg2)) (m ((c : Thread nD τ).loc main_arg3)) ⟨t.val / 4, quot_lt t⟩ ⟨t.val % 4 * 1024 + r.val, by omega⟩ o

theorem qs_first (c : Dev nD) (t : Fin cfg0.N) (h : t.val % 4 = 0) (o : Fin 256) :
    qsAt m c t.val t.isLt (ix3 0 0 o) = tileSum m c t o := by
  rw [qsAt_first m c t h]
  refine (qsOut_at (iblk m c 0 t) (iblk m c 2 t) (iblk m c 4 t) o).trans ?_
  exact Finset.sum_congr rfl fun r _ => q_blk m c t r o

theorem qs_later (c : Dev nD) (t : Fin cfg0.N) (h : ¬ t.val % 4 = 0) (o : Fin 256) :
    qsAt m c t.val t.isLt (ix3 0 0 o) = qsAt m c (t.val - 1) (lt_of_le_of_lt (Nat.sub_le _ _) t.isLt) (ix3 0 0 o) + tileSum m c t o := by
  rw [qsAt_later m c t h]
  refine (qsAcc_at (iblk m c 0 t) (iblk m c 2 t) (iblk m c 4 t) _ o).trans ?_
  exact congrArg _ (Finset.sum_congr rfl fun r _ => q_blk m c t r o)

theorem qs_last (c : Dev nD) (t : Fin cfg0.N) (h : t.val % 4 = 3) (o : Fin 256) :
    qsAt m c t.val t.isLt (ix3 0 0 o) = ∑ n : Fin 4096, queries (m ((c : Thread nD τ).loc main_arg0)) (m ((c : Thread nD τ).loc main_arg2)) (m ((c : Thread nD τ).loc main_arg3)) ⟨t.val / 4, quot_lt t⟩ n o := by
  have h1 : t.val - 1 < cfg0.N := lt_of_le_of_lt (Nat.sub_le _ _) t.isLt
  have h2 : t.val - 1 - 1 < cfg0.N := lt_of_le_of_lt (Nat.sub_le _ _) h1
  have h3 : t.val - 1 - 1 - 1 < cfg0.N := lt_of_le_of_lt (Nat.sub_le _ _) h2
  rw [qs_later m c t (by omega) o, qs_later m c ⟨t.val - 1, h1⟩ (by show ¬ (t.val - 1) % 4 = 0; omega) o,
    qs_later m c ⟨t.val - 1 - 1, h2⟩ (by show ¬ (t.val - 1 - 1) % 4 = 0; omega) o,
    qs_first m c ⟨t.val - 1 - 1 - 1, h3⟩ (by show (t.val - 1 - 1 - 1) % 4 = 0; omega) o,
    Fin.sum_univ_tiles 4 1024 rfl, Fin.sum_univ_four]
  have q1 : (t.val - 1) / 4 = t.val / 4 := by omega
  have q2 : (t.val - 1 - 1) / 4 = t.val / 4 := by omega
  have q3 : (t.val - 1 - 1 - 1) / 4 = t.val / 4 := by omega
  have r1 : (t.val - 1) % 4 = 2 := by omega
  have r2 : (t.val - 1 - 1) % 4 = 1 := by omega
  have r3 : (t.val - 1 - 1 - 1) % 4 = 0 := by omega
  simp only [tileSum, q1, q2, q3, r1, r2, r3, h]
  rfl

theorem final11 (c : Dev nD) (i : Fin 2) (o : Fin 256) : (dats m 0 c).arrAt 11 (cfgs 0).N (ix3 i 0 o)
    = ∑ n : Fin 4096, queries (m ((c : Thread nD τ).loc main_arg0)) (m ((c : Thread nD τ).loc main_arg2)) (m ((c : Thread nD τ).loc main_arg3)) i n o := by
  have h : (dats m 0 c).arrAt 11 (cfgs 0).N = (fun j => ∑ n : Fin 4096, queries (m ((c : Thread nD τ).loc main_arg0)) (m ((c : Thread nD τ).loc main_arg2)) (m ((c : Thread nD τ).loc main_arg3)) (j 0) n (j 2) : FVec Ideal S2x1x256 .f32) := by
    refine (dats m 0 c).arrAt_eq_of_covers 11 _ (by decide +kernel) fun t hf y => ?_
    blk_simp
    rw [after0_11]
    obtain ⟨o, rfl⟩ : ∃ (o : Fin 256), y = ix3 0 0 o := ⟨y 2, by blk_ext⟩
    refine (qs_last m c t (by rw [flush11] at hf; exact eq_of_beq hf) o).trans ?_
    have e : (win0_11.blk t).view.emb (ix3 0 0 o) = ix3 ⟨t.val / 4, quot_lt t⟩ 0 o := by
      blk_ext [idx t]
    rw [e]
    rfl
  exact congrFun h _

/-- One entry of the coarse attention. -/
def coarse (X : FVec Ideal S2x256x64x64 .f32) (U : FVec Ideal S2x256x32x32 .f32) (Wq : FVec Ideal S256x256x1x1 .f32) (bq : FVec Ideal S256 .f32)
    (Wk : FVec Ideal S512x256x1x1 .f32) (bk : FVec Ideal S512 .f32) (i : Fin 2) (n : Fin 4096) (h : Fin 8) (d : Fin 32) : EReal :=
  att (fun e => queries X Wq bq i n ⟨32 * h.val + e.val, by omega⟩)
    (fun m e => coarseKv U Wk bk i m ⟨64 * h.val + e.val, by omega⟩) (fun m => coarseKv U Wk bk i m ⟨64 * h.val + 32 + d.val, by omega⟩)

/-- The coarse attention at a token and a channel. -/
def coarseAt (X : FVec Ideal S2x256x64x64 .f32) (U : FVec Ideal S2x256x32x32 .f32) (Wq : FVec Ideal S256x256x1x1 .f32) (bq : FVec Ideal S256 .f32)
    (Wk : FVec Ideal S512x256x1x1 .f32) (bk : FVec Ideal S512 .f32) (i : Fin 2) (n : Fin 4096) (o : Fin 256) : EReal :=
  coarse X U Wq bq Wk bk i n ⟨o.val / 32, by omega⟩ ⟨o.val % 32, Nat.mod_lt _ (by decide)⟩

theorem final12 (c : Dev nD) (i : Fin 2) (n : Fin 4096) (h : Fin 8) (d : Fin 32) :
    (dats m 0 c).arrAt 12 (cfgs 0).N (ix3 i n ⟨32 * h.val + d.val, by omega⟩)
      = coarse (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i n h d := by
  have hG : (dats m 0 c).arrAt 12 (cfgs 0).N = (fun j => coarseAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1) (j 2) : FVec Ideal S2x4096x256 .f32) := by
    refine (dats m 0 c).arrAt_eq_of_covers 12 _ (by decide +kernel) fun t hf y => ?_
    blk_simp
    rw [after0_12]
    obtain ⟨r, o, rfl⟩ : ∃ (r : Fin 1024) (o : Fin 256), y = ix3 0 r o := ⟨y 1, y 2, by blk_ext⟩
    have e : (win0_12.blk t).view.emb (ix3 0 r o) = ix3 ⟨t.val / 4, quot_lt t⟩ ⟨t.val % 4 * 1024 + r.val, by omega⟩ o := by
      blk_ext [idx t]
    rw [e]
    have ho : o = ⟨32 * (o.val / 32) + o.val % 32, by omega⟩ := Fin.ext (by show o.val = 32 * (o.val / 32) + o.val % 32; omega)
    refine (congrArg (fun o => coOut (F := Ideal) (iblk m c 0 t) (iblk m c 2 t) (iblk m c 4 t) (kvuAt m c t) (ix3 0 r o)) ho).trans ?_
    refine (coOut_at (iblk m c 0 t) (iblk m c 2 t) (iblk m c 4 t) (kvuAt m c t) r ⟨o.val / 32, by omega⟩ ⟨o.val % 32, by omega⟩).trans ?_
    simp only [q_blk, kvuAt_at]
    rfl
  refine (congrFun hG _).trans ?_
  have h1 : (32 * h.val + d.val) / 32 = h.val := by omega
  have h2 : (32 * h.val + d.val) % 32 = d.val := by omega
  show coarse _ _ _ _ _ _ i n ⟨(32 * h.val + d.val) / 32, _⟩ ⟨(32 * h.val + d.val) % 32, _⟩ = _
  simp only [h1, h2]

/-- One entry of the positional term: the convolution of the coarse values, doubled along rows and columns. -/
def posn (U : FVec Ideal S2x256x32x32 .f32) (Wk : FVec Ideal S512x256x1x1 .f32) (bk : FVec Ideal S512 .f32) (Wp : FVec Ideal S256x1x7x7 .f32)
    (bp : FVec Ideal S256 .f32) (i : Fin 2) (a : Fin 32) (s : Fin 2) (b : Fin 32) (t : Fin 2) (h : Fin 8) (d : Fin 32) : EReal :=
  up (fun x => up (fun y => conv (padded (fun y x => coarseKv U Wk bk i ⟨32 * y.val + x.val, by omega⟩ ⟨64 * h.val + 32 + d.val, by omega⟩))
    (fun n => Wp (ix4 ⟨32 * h.val + d.val, by omega⟩ 0 ⟨n.val / 7, by omega⟩ ⟨n.val % 7, by omega⟩)) (bp (ix1 ⟨32 * h.val + d.val, by omega⟩)) y x) a s) b t

/-- The positional term at a token and a channel. -/
def posnAt (U : FVec Ideal S2x256x32x32 .f32) (Wk : FVec Ideal S512x256x1x1 .f32) (bk : FVec Ideal S512 .f32) (Wp : FVec Ideal S256x1x7x7 .f32)
    (bp : FVec Ideal S256 .f32) (i : Fin 2) (n : Fin 4096) (o : Fin 256) : EReal :=
  posn U Wk bk Wp bp i ⟨n.val / 128, by omega⟩ ⟨n.val / 64 % 2, Nat.mod_lt _ (by decide)⟩ ⟨n.val % 64 / 2, by omega⟩
    ⟨n.val % 2, Nat.mod_lt _ (by decide)⟩ ⟨o.val / 32, by omega⟩ ⟨o.val % 32, Nat.mod_lt _ (by decide)⟩

theorem blk_pw' (c : Dev nD) (t : Fin cfg0.N) (n : Fin 49) (o : Fin 256) :
    iblk m c 6 t (ix2 n o) = m ((c : Thread nD τ).loc main_arg6) (ix4 o 0 ⟨n.val / 7, by omega⟩ ⟨n.val % 7, by omega⟩) := by
  have hn : n = ⟨7 * (n.val / 7) + n.val % 7, by omega⟩ := Fin.ext (by show n.val = 7 * (n.val / 7) + n.val % 7; omega)
  exact (congrArg (fun n => iblk m c 6 t (ix2 n o)) hn).trans (blk_pw m c t ⟨n.val / 7, by omega⟩ ⟨n.val % 7, by omega⟩ o)

theorem pe_blk (c : Dev nD) (t : Fin cfg0.N) (a : Fin 32) (s : Fin 2) (b : Fin 32) (u : Fin 2) (h : Fin 8) (d : Fin 32) :
    peAt m c t (ix3 0 ⟨64 * (2 * a.val + s.val) + (2 * b.val + u.val), by omega⟩ ⟨32 * h.val + d.val, by omega⟩)
      = posn (m ((c : Thread nD τ).loc main_arg1)) (m ((c : Thread nD τ).loc main_arg4)) (m ((c : Thread nD τ).loc main_arg5)) (m ((c : Thread nD τ).loc main_arg6)) (m ((c : Thread nD τ).loc main_arg7)) ⟨t.val / 4, quot_lt t⟩ a s b u h d := by
  refine (peOut_at (iblk m c 1 (bat t)) (iblk m c 3 (bat t)) (iblk m c 5 (bat t)) (iblk m c 6 (bat t)) (iblk m c 7 (bat t)) a b s u h d).trans ?_
  simp only [kv_at, blk_u, blk_kw, blk_kb, blk_pw', blk_pb, bat_quot]
  rfl

theorem final13 (c : Dev nD) (i : Fin 2) (a : Fin 32) (s : Fin 2) (b : Fin 32) (u : Fin 2) (h : Fin 8) (d : Fin 32) :
    (dats m 0 c).arrAt 13 (cfgs 0).N (ix3 i ⟨64 * (2 * a.val + s.val) + (2 * b.val + u.val), by omega⟩ ⟨32 * h.val + d.val, by omega⟩)
      = posn (m ((c : Thread nD τ).loc main_arg1)) (m ((c : Thread nD τ).loc main_arg4)) (m ((c : Thread nD τ).loc main_arg5)) (m ((c : Thread nD τ).loc main_arg6)) (m ((c : Thread nD τ).loc main_arg7)) i a s b u h d := by
  have hG : (dats m 0 c).arrAt 13 (cfgs 0).N = (fun j => posnAt (m ((c : Thread nD τ).loc main_arg1)) (m ((c : Thread nD τ).loc main_arg4)) (m ((c : Thread nD τ).loc main_arg5)) (m ((c : Thread nD τ).loc main_arg6)) (m ((c : Thread nD τ).loc main_arg7)) (j 0) (j 1) (j 2) : FVec Ideal S2x4096x256 .f32) := by
    refine (dats m 0 c).arrAt_eq_of_covers 13 _ (by decide +kernel) fun t hf y => ?_
    blk_simp
    rw [after0_13]
    obtain ⟨r, o, rfl⟩ : ∃ (r : Fin 4096) (o : Fin 256), y = ix3 0 r o := ⟨y 1, y 2, by blk_ext⟩
    have e : (win0_13.blk t).view.emb (ix3 0 r o) = ix3 ⟨t.val / 4, quot_lt t⟩ r o := by
      blk_ext [idx t]
    rw [e]
    have ho : o = ⟨32 * (o.val / 32) + o.val % 32, by omega⟩ := Fin.ext (by show o.val = 32 * (o.val / 32) + o.val % 32; omega)
    have hr : r = ⟨64 * (2 * (r.val / 128) + r.val / 64 % 2) + (2 * (r.val % 64 / 2) + r.val % 2), by omega⟩ :=
      Fin.ext (by show r.val = 64 * (2 * (r.val / 128) + r.val / 64 % 2) + (2 * (r.val % 64 / 2) + r.val % 2); omega)
    refine (congrArg₂ (fun r o => peAt m c t (ix3 0 r o)) hr ho).trans ?_
    exact pe_blk m c t ⟨r.val / 128, by omega⟩ ⟨r.val / 64 % 2, by omega⟩ ⟨r.val % 64 / 2, by omega⟩ ⟨r.val % 2, by omega⟩ ⟨o.val / 32, by omega⟩ ⟨o.val % 32, by omega⟩
  refine (congrFun hG _).trans ?_
  have h1 : (32 * h.val + d.val) / 32 = h.val := by omega
  have h2 : (32 * h.val + d.val) % 32 = d.val := by omega
  have h3 : (64 * (2 * a.val + s.val) + (2 * b.val + u.val)) / 128 = a.val := by omega
  have h4 : (64 * (2 * a.val + s.val) + (2 * b.val + u.val)) / 64 % 2 = s.val := by omega
  have h5 : (64 * (2 * a.val + s.val) + (2 * b.val + u.val)) % 64 / 2 = b.val := by omega
  have h6 : (64 * (2 * a.val + s.val) + (2 * b.val + u.val)) % 2 = u.val := by omega
  show posn _ _ _ _ _ i ⟨(64 * (2 * a.val + s.val) + (2 * b.val + u.val)) / 128, _⟩ ⟨(64 * (2 * a.val + s.val) + (2 * b.val + u.val)) / 64 % 2, _⟩
    ⟨(64 * (2 * a.val + s.val) + (2 * b.val + u.val)) % 64 / 2, _⟩ ⟨(64 * (2 * a.val + s.val) + (2 * b.val + u.val)) % 2, _⟩
    ⟨(32 * h.val + d.val) / 32, _⟩ ⟨(32 * h.val + d.val) % 32, _⟩ = _
  simp only [h1, h2, h3, h4, h5, h6]

end Cert.MainIdeal.Val

end
-- ==== Proof.MainRef.lean ====
module

public import proofs.«01_k».proof.Proof.MainValue
public import proofs.«01_k».proof.Proof.Gen.MainRefIdeal.Read

/-! The entries of the reference's results, in the formulas the kernel's results were read in. -/
@[expose] public section

set_option maxRecDepth 16384
noncomputable section
open Idealize.ShloMosaic Idealize.ShloMosaic.TcCoe Idealize.SL.Sem

namespace Cert.MainIdeal.Val
open Cert.MainIdeal Cert.MainIdeal.Gen
open Cert.MainRefIdeal.Read

variable (X : FVec Ideal S2x256x64x64 .f32) (U : FVec Ideal S2x256x32x32 .f32) (Wq : FVec Ideal S256x256x1x1 .f32) (bq : FVec Ideal S256 .f32)
  (Wk : FVec Ideal S512x256x1x1 .f32) (bk : FVec Ideal S512 .f32) (Wp : FVec Ideal S256x1x7x7 .f32) (bp : FVec Ideal S256 .f32)

theorem ref_v6 (i : Fin 2) (n : Fin 4096) (o : Fin 256) :
    val_main_v6 (F := Ideal) X Wq bq (ix3 i n o) = lin (xs X i n) (fun o k => Wq (ix4 o k 0 0)) (fun o => bq (ix1 o)) o := by
  pointwise [val_main_v6, val_main_v5, val_main_v4, val_main_v3, val_main_v2, val_main_v0, lin, xs]

theorem ref_v131 (i : Fin 2) (n : Fin 4096) (o : Fin 256) :
    val_main_v131 (F := Ideal) X Wq bq (ix3 i n o) = queries X Wq bq i n o := by
  pointwise [val_main_v131, val_main_v130, val_main_cst_15]
  rw [ref_v6]
  rfl

theorem ref_v133 (i : Fin 2) (n : Fin 4096) (o : Fin 256) :
    val_main_v133 (F := Ideal) X Wq bq (ix3 i n o) = queries X Wq bq i n o := by
  pointwise [val_main_v133, val_main_v132, val_main_cst_16]
  rw [ref_v6]
  rfl

theorem ref_v11 (i : Fin 2) (n : Fin 4096) (o : Fin 512) :
    val_main_v11 (F := Ideal) X Wk bk (ix3 i n o) = fineKv X Wk bk i n o := by
  pointwise [val_main_v11, val_main_v10, val_main_v9, val_main_v8, val_main_v7, val_main_v0, fineKv, lin, xs]

theorem ref_v16 (i : Fin 2) (n : Fin 1024) (o : Fin 512) :
    val_main_v16 (F := Ideal) U Wk bk (ix3 i n o) = coarseKv U Wk bk i n o := by
  pointwise [val_main_v16, val_main_v15, val_main_v14, val_main_v13, val_main_v12, val_main_v1, coarseKv, lin, us]

theorem ref_v135 (i : Fin 2) (o : Fin 256) :
    val_main_v135 (F := Ideal) X Wq bq (ix3 i 0 o) = ∑ n, queries X Wq bq i n o := by
  pointwise [val_main_v135, val_main_v134, val_main_cst_17]
  exact Finset.sum_congr rfl fun n _ => ref_v133 X Wq bq i n o

theorem ref_v24 (i : Fin 2) (h : Fin 8) (n : Fin 4096) (e : Fin 32) :
    val_main_v24 (F := Ideal) X Wq bq (ix4 i h n e)
      = lin (xs X i n) (fun o k => Wq (ix4 o k 0 0)) (fun o => bq (ix1 o)) ⟨32 * h.val + e.val, by omega⟩ := by
  refine Eq.trans ?_ (ref_v6 X Wq bq i n _)
  pointwise [val_main_v24, val_main_v23]
  blk_ext

theorem ref_v19 (i : Fin 2) (h : Fin 8) (n : Fin 1024) (e : Fin 32) :
    val_main_v19 (F := Ideal) U Wk bk (ix4 i h n e) = coarseKv U Wk bk i n ⟨64 * h.val + e.val, by omega⟩ := by
  refine Eq.trans ?_ (ref_v16 U Wk bk i n _)
  pointwise [val_main_v19, val_main_v18, val_main_v17]
  blk_ext

theorem ref_v22 (i : Fin 2) (h : Fin 8) (n : Fin 1024) (e : Fin 32) :
    val_main_v22 (F := Ideal) U Wk bk (ix4 i h n e) = coarseKv U Wk bk i n ⟨64 * h.val + 32 + e.val, by omega⟩ := by
  refine Eq.trans ?_ (ref_v16 U Wk bk i n _)
  pointwise [val_main_v22, val_main_v21, val_main_v20]
  blk_ext

/-- The score of a query token against a coarse token, before the softmax. -/
def score (i : Fin 2) (h : Fin 8) (n : Fin 4096) (m : Fin 1024) : EReal :=
  (∑ e : Fin 32, lin (xs X i n) (fun o k => Wq (ix4 o k 0 0)) (fun o => bq (ix1 o)) ⟨32 * h.val + e.val, by omega⟩
    * coarseKv U Wk bk i m ⟨64 * h.val + e.val, by omega⟩) * scale

theorem ref_v27 (i : Fin 2) (h : Fin 8) (n : Fin 4096) (m : Fin 1024) :
    val_main_v27 (F := Ideal) X U Wq bq Wk bk (ix4 i h n m) = score X U Wq bq Wk bk i h n m := by
  pointwise [val_main_v27, val_main_v26, val_main_v25, val_main_cst]
  simp only [ref_v24, ref_v19]
  rfl

theorem score_max (v : FVec Ideal Cert.MainRefIdeal.S2x8x4096x1024 .f32) (c : FVec Ideal Cert.MainRefIdeal.S_ .f32) (i : Fin 2) (h : Fin 8) (n : Fin 4096) :
    Host.reduce FloatOps.maximumf v c Cert.MainRefIdeal.Gen.reducesTo_S2x8x4096x1024_S2x8x4096_d3 Cert.MainRefIdeal.Gen.h_S_ (ix3 i h n)
      = Finset.univ.fold max (c (Shape.Idx.first Cert.MainRefIdeal.Gen.h_S_)) fun m : Fin 1024 => v (ix4 i h n m) := by
  pointwise []

/-- The starting value of the maximum is the least extended real. -/
theorem low : Ideal.ofBits .f32 0xFF800000#32 = ⊥ := by
  simp [Ideal.ofBits, Ideal.ieee]

theorem ref_v28 (i : Fin 2) (h : Fin 8) (n : Fin 4096) :
    val_main_v28 (F := Ideal) X U Wq bq Wk bk (ix3 i h n) = Finset.univ.fold max ⊥ fun m => score X U Wq bq Wk bk i h n m := by
  refine (score_max _ _ i h n).trans ?_
  simp only [ref_v27]
  rw [val_main_cst_0_apply]
  exact congrArg (fun b => Finset.univ.fold max b fun m => score X U Wq bq Wk bk i h n m) low

theorem maximum_at (a b : FVec Ideal Cert.MainRefIdeal.S2x8x4096 .f32) (i : Fin 2) (h : Fin 8) (n : Fin 4096) :
    maximumf a b (ix3 i h n) = max (a (ix3 i h n)) (b (ix3 i h n)) := rfl

theorem ref_v30 (i : Fin 2) (h : Fin 8) (n : Fin 4096) :
    val_main_v30 (F := Ideal) X U Wq bq Wk bk (ix3 i h n) = max ⊥ (Finset.univ.fold max ⊥ fun m => score X U Wq bq Wk bk i h n m) := by
  refine (maximum_at (val_main_v29 (F := Ideal)) (val_main_v28 (F := Ideal) X U Wq bq Wk bk) i h n).trans ?_
  rw [ref_v28]
  refine congrArg (fun b => max b (Finset.univ.fold max ⊥ fun m => score X U Wq bq Wk bk i h n m)) ?_
  rw [val_main_v29_apply, val_main_cst_1_apply]
  exact low

theorem ref_v34 (i : Fin 2) (h : Fin 8) (n : Fin 4096) (m : Fin 1024) :
    val_main_v34 (F := Ideal) X U Wq bq Wk bk (ix4 i h n m)
      = Ideal.exp (score X U Wq bq Wk bk i h n m - val_main_v30 (F := Ideal) X U Wq bq Wk bk (ix3 i h n)) := by
  pointwise [val_main_v34, val_main_v33, val_main_v32, val_main_v31]
  rw [ref_v27]

theorem ref_v41 (i : Fin 2) (n : Fin 4096) (h : Fin 8) (d : Fin 32) :
    val_main_v41 (F := Ideal) X U Wq bq Wk bk (ix3 i n ⟨32 * h.val + d.val, by omega⟩)
      = ∑ m : Fin 1024, Ideal.div (Ideal.exp (score X U Wq bq Wk bk i h n m - val_main_v30 (F := Ideal) X U Wq bq Wk bk (ix3 i h n)))
          (∑ m : Fin 1024, Ideal.exp (score X U Wq bq Wk bk i h n m - val_main_v30 (F := Ideal) X U Wq bq Wk bk (ix3 i h n)))
          * coarseKv U Wk bk i m ⟨64 * h.val + 32 + d.val, by omega⟩ := by
  have e : val_main_v41 (F := Ideal) X U Wq bq Wk bk (ix3 i n ⟨32 * h.val + d.val, by omega⟩)
      = val_main_v39 (F := Ideal) X U Wq bq Wk bk (ix4 i h n d) := by
    pointwise [val_main_v41, val_main_v40]
    blk_ext
  rw [e]
  pointwise [val_main_v39, val_main_v38, val_main_v37, val_main_v36, val_main_v35, val_main_cst_2]
  simp only [ref_v34, ref_v22, Ideal.ofBits_zero_f32, zero_add]

end Cert.MainIdeal.Val

end
-- ==== Proof.MainReal.lean ====
module

public import proofs.«01_k».proof.Proof.MainPe
public import Idealize.ShloMosaic.Lib.IdealHost

/-! Facts of real arithmetic: the softmax without its shift, and the doubling weights. -/

@[expose] public section

set_option maxRecDepth 16384

noncomputable section

namespace Cert.MainIdeal.Val

open Idealize.ShloMosaic Idealize.SL.Sem

/-- An extended real that is a real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem coe_sum_real {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem IsReal.sum {n : ℕ} {f : Fin n → EReal} (h : ∀ k, IsReal (f k)) : IsReal (∑ k, f k) := by
  choose g hg using h
  exact ⟨∑ k, g k, by rw [coe_sum_real]; exact Finset.sum_congr rfl fun k _ => hg k⟩

theorem word_is_real (b : BitVec 32) (h : ¬ (b.extractLsb' 23 8).toNat = 2 ^ 8 - 1) : IsReal (Ideal.ofBits .f32 b) := by
  unfold Ideal.ofBits Ideal.ieee
  simp only [if_neg h]
  split_ifs <;> exact ⟨_, rfl⟩

theorem scale_real : IsReal scale := word_is_real _ (by decide)

theorem half : Ideal.ofBits .f32 0x3F000000#32 = ((1 / 2 : ℝ) : EReal) := by
  simp [Ideal.ofBits, Ideal.ieee, -EReal.coe_mul]; norm_num

theorem c75_real : c75 = ((3 / 4 : ℝ) : EReal) := by
  simp [Ideal.ofBits, Ideal.ieee, -EReal.coe_mul]; norm_num

theorem c25_real : c25 = ((1 / 4 : ℝ) : EReal) := by
  simp [Ideal.ofBits, Ideal.ieee, -EReal.coe_mul]; norm_num

theorem coe_max_real (a b : ℝ) : ((max a b : ℝ) : EReal) = max (a : EReal) (b : EReal) :=
  EReal.coe_strictMono.monotone.map_max

/-- The largest of finitely many reals, at least one, is a real. -/
theorem fold_max_real {n : ℕ} (f : Fin (n + 1) → EReal) (h : ∀ k, IsReal (f k)) : IsReal (max ⊥ (Finset.univ.fold max ⊥ f)) := by
  rw [max_eq_right bot_le]
  rcases Finset.fold_max_lt (s := Finset.univ) (f := f) (b := ⊥) (c := ⊤) with ⟨_, h2⟩
  have ht : Finset.univ.fold max ⊥ f ≠ ⊤ := ne_of_lt (h2 ⟨bot_lt_top, fun k _ => by obtain ⟨r, hr⟩ := h k; rw [hr]; exact EReal.coe_lt_top r⟩)
  have hb : Finset.univ.fold max ⊥ f ≠ ⊥ := by
    have : ⊥ < Finset.univ.fold max ⊥ f := by
      rw [Finset.lt_fold_max]
      exact Or.inr ⟨0, Finset.mem_univ _, by obtain ⟨r, hr⟩ := h 0; rw [hr]; exact EReal.bot_lt_coe r⟩
    exact ne_of_gt this
  exact ⟨_, (EReal.coe_toReal ht hb).symm⟩

/-- The weighted mean of the exponentials does not see a shift of the scores. -/
theorem shift {n : ℕ} (s v : Fin (n + 1) → ℝ) (M : ℝ) :
    ∑ m, Ideal.div (Ideal.exp ((s m : EReal) - (M : EReal))) (∑ m, Ideal.exp ((s m : EReal) - (M : EReal))) * (v m : EReal)
      = Ideal.div (∑ m, Ideal.exp (s m : EReal) * (v m : EReal)) (∑ m, Ideal.exp (s m : EReal)) := by
  have e1 : ∀ m, Ideal.exp ((s m : EReal) - (M : EReal)) = ((Real.exp (s m - M) : ℝ) : EReal) := fun m => by
    rw [← EReal.coe_sub, Ideal.exp_coe]
  have p1 : (∑ m : Fin (n + 1), Real.exp (s m - M)) ≠ 0 := ne_of_gt (Finset.sum_pos (fun _ _ => Real.exp_pos _) ⟨(0 : Fin (n + 1)), Finset.mem_univ _⟩)
  have p2 : (∑ m : Fin (n + 1), Real.exp (s m)) ≠ 0 := ne_of_gt (Finset.sum_pos (fun _ _ => Real.exp_pos _) ⟨(0 : Fin (n + 1)), Finset.mem_univ _⟩)
  simp only [e1, Ideal.exp_coe, ← EReal.coe_mul, ← coe_sum_real, Ideal.div_coe p1, Ideal.div_coe p2]
  rw [EReal.coe_eq_coe_iff]
  have e2 : ∀ m, Real.exp (s m - M) = Real.exp (s m) * Real.exp (-M) := fun m => by rw [sub_eq_add_neg, Real.exp_add]
  have p3 : Real.exp (-M) ≠ 0 := ne_of_gt (Real.exp_pos _)
  simp only [e2, ← Finset.sum_mul]
  rw [Finset.sum_mul Finset.univ (fun m => Real.exp (s m) * v m)]
  refine Finset.sum_congr rfl fun m _ => ?_
  field_simp

/-- The softmax attention, scores scaled afterwards and shifted, is the quotient of the two sums. -/
theorem soft_eq (q : Fin 32 → EReal) (k : Fin 1024 → Fin 32 → EReal) (v : Fin 1024 → EReal) (M : EReal)
    (hq : ∀ e, IsReal (q e)) (hk : ∀ m e, IsReal (k m e)) (hv : ∀ m, IsReal (v m)) (hM : IsReal M) :
    ∑ m, Ideal.div (Ideal.exp ((∑ e, q e * k m e) * scale - M)) (∑ m, Ideal.exp ((∑ e, q e * k m e) * scale - M)) * v m
      = att (fun e => q e * scale) k v := by
  obtain ⟨S, hS⟩ := scale_real
  obtain ⟨N, rfl⟩ := hM
  choose q' hq' using hq
  choose k' hk' using hk
  choose v' hv' using hv
  unfold att
  simp only [hS, hq', hk', hv', ← EReal.coe_mul, ← coe_sum_real]
  have e : ∀ m, (∑ e, q' e * S * k' m e) = (∑ e, q' e * k' m e) * S := fun m => by
    rw [Finset.sum_mul]
    exact Finset.sum_congr rfl fun _ _ => by ring
  simp only [e]
  exact shift _ v' N

/-! ### The weights of the doubling -/

/-- Four times the overlap of a fine position with a coarse one. -/
def near (a y : ℕ) : ℕ := ((4 : ℤ) - |2 * (a : ℤ) - 1 - 4 * (y : ℤ)|).toNat

theorem near_sum : ∀ (a : Fin 32) (s : Fin 2) (y : Fin 32), 4 * near (2 * a.val + s.val) y.val
    = (∑ x : Fin 32, near (2 * a.val + s.val) x.val) * ((if y = a then 3 else 0) + (if y = nbr a s then 1 else 0)) := by
  decide +kernel

theorem near_pos : ∀ (a : Fin 32) (s : Fin 2), 0 < ∑ x : Fin 32, near (2 * a.val + s.val) x.val := by
  decide +kernel

theorem near_real (a y : ℕ) (z : EReal) (hz : z = ((((a : ℝ) + 1 / 2) * (1 / 2) - 1 / 2 - (y : ℝ) : ℝ) : EReal)) :
    max 0 (1 - max z (-z)) = (((near a y : ℝ) / 4 : ℝ) : EReal) := by
  subst hz
  have h : ((near a y : ℕ) : ℝ) = max 0 (4 - |2 * (a : ℝ) - 1 - 4 * (y : ℝ)|) := by
    have : ((near a y : ℕ) : ℤ) = max 0 (4 - |2 * (a : ℤ) - 1 - 4 * (y : ℤ)|) := by unfold near; omega
    exact_mod_cast congrArg (Int.cast : ℤ → ℝ) this
  rw [h, ← EReal.coe_neg, ← coe_max_real, ← EReal.coe_one, ← EReal.coe_sub, ← EReal.coe_zero, ← coe_max_real]
  refine congrArg _ ?_
  rw [← abs_eq_max_neg, show ((a : ℝ) + 1 / 2) * (1 / 2) - 1 / 2 - (y : ℝ) = (2 * (a : ℝ) - 1 - 4 * (y : ℝ)) / 4 by ring, abs_div,
    abs_of_pos (by norm_num : (0 : ℝ) < 4)]
  generalize |2 * (a : ℝ) - 1 - 4 * (y : ℝ)| = t
  rcases le_total (4 - t) 0 with ht | ht
  · rw [max_eq_left ht, max_eq_left (by linarith)]; norm_num
  · rw [max_eq_right ht, max_eq_right (by linarith)]; ring

/-- The weight of a coarse row in a fine one. -/
def weight (a : Fin 32) (s : Fin 2) (y : Fin 32) : EReal :=
  (if y = a then ((3 / 4 : ℝ) : EReal) else 0) + (if y = nbr a s then ((1 / 4 : ℝ) : EReal) else 0)

theorem weight_eq (a : Fin 32) (s : Fin 2) (y : Fin 32) :
    Ideal.div (((near (2 * a.val + s.val) y.val : ℝ) / 4 : ℝ) : EReal) (∑ x : Fin 32, (((near (2 * a.val + s.val) x.val : ℝ) / 4 : ℝ) : EReal))
      = weight a s y := by
  have h1 : (4 * (near (2 * a.val + s.val) y.val : ℝ)) = (∑ x : Fin 32, (near (2 * a.val + s.val) x.val : ℝ)) * ((if y = a then 3 else 0) + (if y = nbr a s then 1 else 0)) := by
    exact_mod_cast near_sum a s y
  have h2 : (0 : ℝ) < ∑ x : Fin 32, (near (2 * a.val + s.val) x.val : ℝ) := by exact_mod_cast near_pos a s
  have h3 : (∑ x : Fin 32, (near (2 * a.val + s.val) x.val : ℝ) / 4) ≠ 0 := by rw [← Finset.sum_div]; positivity
  rw [← coe_sum_real, Ideal.div_coe h3, ← EReal.coe_mul, ← Finset.sum_div]
  have h4 : weight a s y = (((if y = a then 3 / 4 else 0) + (if y = nbr a s then 1 / 4 else 0) : ℝ) : EReal) := by
    unfold weight
    rw [EReal.coe_add]
    split_ifs <;> simp
  rw [h4]
  refine congrArg _ ?_
  have h5 : (near (2 * a.val + s.val) y.val : ℝ) = (∑ x : Fin 32, (near (2 * a.val + s.val) x.val : ℝ)) * ((if y = a then 3 / 4 else 0) + (if y = nbr a s then 1 / 4 else 0)) := by
    have : (((if y = a then 3 else 0) + (if y = nbr a s then 1 else 0)) : ℝ) = 4 * ((if y = a then 3 / 4 else 0) + (if y = nbr a s then 1 / 4 else 0)) := by
      split_ifs <;> norm_num
    rw [this] at h1
    linarith
  generalize (∑ x : Fin 32, (near (2 * a.val + s.val) x.val : ℝ)) = T at h2 h5 ⊢
  rw [h5]
  field_simp

theorem weight_sum (a : Fin 32) (s : Fin 2) (A : Fin 32 → EReal) : ∑ y, weight a s y * A y = up A a s := by
  have h : ∀ y, weight a s y * A y = (if y = a then ((3 / 4 : ℝ) : EReal) * A y else 0) + (if y = nbr a s then ((1 / 4 : ℝ) : EReal) * A y else 0) := fun y => by
    unfold weight
    rw [EReal.right_distrib_of_nonneg]
    · rw [ite_mul, ite_mul, zero_mul]
    · split_ifs
      · exact EReal.coe_nonneg.2 (by norm_num)
      · exact le_rfl
    · split_ifs
      · exact EReal.coe_nonneg.2 (by norm_num)
      · exact le_rfl
  simp only [h]
  rw [Finset.sum_add_distrib, Finset.sum_ite_eq', Finset.sum_ite_eq', if_pos (Finset.mem_univ _), if_pos (Finset.mem_univ _)]
  unfold up
  rw [c75_real, c25_real]

end Cert.MainIdeal.Val

end
-- ==== Proof.MainRefPe.lean ====
module

public import proofs.«01_k».proof.Proof.MainRef
public import proofs.«01_k».proof.Proof.MainReal
public import proofs.«01_k».proof.Proof.Gen.MainRefIdeal.Read

/-! The entries of the reference's positional term. -/
@[expose] public section

set_option maxRecDepth 16384
noncomputable section
open Idealize.ShloMosaic Idealize.ShloMosaic.TcCoe Idealize.SL.Sem

namespace Cert.MainIdeal.Val
open Cert.MainIdeal Cert.MainIdeal.Gen
open Cert.MainRefIdeal.Read

variable (X : FVec Ideal S2x256x64x64 .f32) (U : FVec Ideal S2x256x32x32 .f32) (Wq : FVec Ideal S256x256x1x1 .f32) (bq : FVec Ideal S256 .f32)
  (Wk : FVec Ideal S512x256x1x1 .f32) (bk : FVec Ideal S512 .f32) (Wp : FVec Ideal S256x1x7x7 .f32) (bp : FVec Ideal S256 .f32)

/-! ### The positional term -/

theorem ref_v43 (i : Fin 2) (h : Fin 8) (d : Fin 32) (y x : Fin 32) :
    val_main_v43 (F := Ideal) U Wk bk (ix4 i ⟨32 * h.val + d.val, by omega⟩ y x)
      = coarseKv U Wk bk i ⟨32 * y.val + x.val, by omega⟩ ⟨64 * h.val + 32 + d.val, by omega⟩ := by
  refine Eq.trans ?_ (ref_v22 U Wk bk i h ⟨32 * y.val + x.val, by omega⟩ d)
  pointwise [val_main_v43, val_main_v42]
  blk_ext

theorem ref_v44 (i : Fin 2) (o : Fin 256) (y x : Fin 38) :
    val_main_v44 (F := Ideal) U Wk bk (ix4 i o y x)
      = padded (fun y x => val_main_v43 (F := Ideal) U Wk bk (ix4 i o y x)) y x := by
  pointwise [val_main_v44, val_main_call0_v0, val_main_c, padded]
  have z : FloatOps.sitofp (F := Ideal) FTy.f32 0#32 = 0 := by
    show ((((0#32 : BitVec 32).toInt : ℤ) : ℝ) : EReal) = 0
    simp
  rw [z]
  by_cases hc : (3 ≤ y.val ∧ y.val < 35) ∧ 3 ≤ x.val ∧ x.val < 35
  · rw [dif_pos hc, dif_pos (by omega)]
  · rw [dif_neg hc, dif_neg (by omega)]

theorem ref_v80 (i : Fin 2) (o : Fin 256) (y x : Fin 32) :
    val_main_v80 (F := Ideal) U Wk bk Wp bp (ix4 i o y x)
      = (∑ k : Fin 7, ∑ j : Fin 7, Wp (ix4 o 0 k j) * val_main_v74 (F := Ideal) U Wk bk (ix6 i o k j y x)) + bp (ix1 o) := by
  pointwise [val_main_v80, val_main_v79, val_main_v78, val_main_v77, val_main_v76, val_main_v75]

/-- One of seven values picked by a ladder of conditions. -/
theorem seven (f : ℕ → EReal) (j : Fin 7) :
    (if j.val < 1 then f 0 else if j.val - 1 < 1 then f 1 else if j.val - 1 - 1 < 1 then f 2 else if j.val - 1 - 1 - 1 < 1 then f 3
      else if j.val - 1 - 1 - 1 - 1 < 1 then f 4 else if j.val - 1 - 1 - 1 - 1 - 1 < 1 then f 5 else f 6) = f j.val := by
  fin_vals j with hj <;> simp [hj]

theorem ref_v74 (i : Fin 2) (o : Fin 256) (k j : Fin 7) (y x : Fin 32) :
    val_main_v74 (F := Ideal) U Wk bk (ix6 i o k j y x)
      = val_main_v59 (F := Ideal) U Wk bk (ix5 i o k y ⟨j.val + x.val, by omega⟩) := by
  have e := seven (fun j => if h : j + x.val < 38 then val_main_v59 (F := Ideal) U Wk bk (ix5 i o k y ⟨j + x.val, h⟩) else 0) j
  rw [dif_pos (show 0 + x.val < 38 by omega), dif_pos (show 1 + x.val < 38 by omega), dif_pos (show 2 + x.val < 38 by omega), dif_pos (show 3 + x.val < 38 by omega), dif_pos (show 4 + x.val < 38 by omega), dif_pos (show 5 + x.val < 38 by omega), dif_pos (show 6 + x.val < 38 by omega), dif_pos (show j.val + x.val < 38 by omega)] at e
  refine Eq.trans ?_ e
  clear e
  pointwise [val_main_v74, val_main_v73, val_main_v72, val_main_v71, val_main_v70, val_main_v69, val_main_v68, val_main_v67, val_main_v66, val_main_v65, val_main_v64, val_main_v63, val_main_v62, val_main_v61, val_main_v60]
  split_ifs <;> first | rfl | blk_ext

theorem ref_v59 (i : Fin 2) (o : Fin 256) (k : Fin 7) (y : Fin 32) (x : Fin 38) :
    val_main_v59 (F := Ideal) U Wk bk (ix5 i o k y x)
      = val_main_v44 (F := Ideal) U Wk bk (ix4 i o ⟨k.val + y.val, by omega⟩ x) := by
  have e := seven (fun k => if h : k + y.val < 38 then val_main_v44 (F := Ideal) U Wk bk (ix4 i o ⟨k + y.val, h⟩ x) else 0) k
  rw [dif_pos (show 0 + y.val < 38 by omega), dif_pos (show 1 + y.val < 38 by omega), dif_pos (show 2 + y.val < 38 by omega), dif_pos (show 3 + y.val < 38 by omega), dif_pos (show 4 + y.val < 38 by omega), dif_pos (show 5 + y.val < 38 by omega), dif_pos (show 6 + y.val < 38 by omega), dif_pos (show k.val + y.val < 38 by omega)] at e
  refine Eq.trans ?_ e
  clear e
  pointwise [val_main_v59, val_main_v58, val_main_v57, val_main_v56, val_main_v55, val_main_v54, val_main_v53, val_main_v52, val_main_v51, val_main_v50, val_main_v49, val_main_v48, val_main_v47, val_main_v46, val_main_v45]
  split_ifs <;> first | rfl | blk_ext

theorem ref_v129 (i : Fin 2) (a : Fin 64) (b : Fin 64) (o : Fin 256) :
    val_main_v129 (F := Ideal) U Wk bk Wp bp (ix3 i ⟨64 * a.val + b.val, by omega⟩ o)
      = ∑ x : Fin 32, (∑ y : Fin 32, val_main_v102 (F := Ideal) (ix2 y a) * val_main_v80 (F := Ideal) U Wk bk Wp bp (ix4 i o y x)) * val_main_v124 (F := Ideal) (ix2 x b) := by
  have e : val_main_v129 (F := Ideal) U Wk bk Wp bp (ix3 i ⟨64 * a.val + b.val, by omega⟩ o)
      = val_main_v126 (F := Ideal) U Wk bk Wp bp (ix4 a i o b) := by
    pointwise [val_main_v129, val_main_v128, val_main_v127]
    blk_ext
  rw [e]
  pointwise [val_main_v126, val_main_v125]

theorem word_real (k : ℕ) (hk : k < 64) : FloatOps.sitofp (F := Ideal) FTy.f32 (BitVec.ofNat 32 k) = ((k : ℝ) : EReal) := by
  show (((BitVec.ofNat 32 k).toInt : ℝ) : EReal) = ((k : ℝ) : EReal)
  have : (BitVec.ofNat 32 k).toInt = (k : ℤ) := by
    rw [BitVec.toInt_ofNat', Int.bmod_eq_of_le] <;> omega
  rw [this]
  simp

theorem near_word (a : ℕ) (ha : a < 64) (y : Fin 32) :
    max 0 (1 - FloatOps.absf (F := Ideal) (φ := .f32) ((FloatOps.sitofp (F := Ideal) FTy.f32 (BitVec.ofNat 32 a) + Ideal.ofBits FTy.f32 1056964608#32)
      * Ideal.ofBits FTy.f32 1056964608#32 - Ideal.ofBits FTy.f32 1056964608#32 - FloatOps.sitofp (F := Ideal) FTy.f32 (BitVec.ofNat 32 y.val)))
      = (((near a y.val : ℝ) / 4 : ℝ) : EReal) := by
  refine near_real a y.val _ ?_
  rw [word_real a ha, word_real y.val (by omega)]
  have h : Ideal.ofBits FTy.f32 1056964608#32 = ((1 / 2 : ℝ) : EReal) := half
  rw [h, ← EReal.coe_add, ← EReal.coe_mul, ← EReal.coe_sub, ← EReal.coe_sub]

theorem ref_v102 (a : Fin 32) (s : Fin 2) (y : Fin 32) : val_main_v102 (F := Ideal) (ix2 y ⟨2 * a.val + s.val, by omega⟩) = weight a s y := by
  refine Eq.trans ?_ (weight_eq a s y)
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_cst_3, val_main_cst_4, val_main_cst_5, val_main_cst_6, val_main_cst_7, val_main_cst_8]
  have h := near_word (2 * a.val + s.val) (by omega)
  rw [h y, Finset.sum_congr rfl fun x _ => h x]

theorem ref_v124 (a : Fin 32) (s : Fin 2) (y : Fin 32) : val_main_v124 (F := Ideal) (ix2 y ⟨2 * a.val + s.val, by omega⟩) = weight a s y := by
  refine Eq.trans ?_ (weight_eq a s y)
  pointwise [val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_cst_9, val_main_cst_10, val_main_cst_11, val_main_cst_12, val_main_cst_13, val_main_cst_14]
  have h := near_word (2 * a.val + s.val) (by omega)
  rw [h y, Finset.sum_congr rfl fun x _ => h x]

theorem ref_conv (i : Fin 2) (h : Fin 8) (d : Fin 32) (y x : Fin 32) :
    val_main_v80 (F := Ideal) U Wk bk Wp bp (ix4 i ⟨32 * h.val + d.val, by omega⟩ y x)
      = conv (padded (fun y x => coarseKv U Wk bk i ⟨32 * y.val + x.val, by omega⟩ ⟨64 * h.val + 32 + d.val, by omega⟩))
          (fun n => Wp (ix4 ⟨32 * h.val + d.val, by omega⟩ 0 ⟨n.val / 7, by omega⟩ ⟨n.val % 7, by omega⟩)) (bp (ix1 ⟨32 * h.val + d.val, by omega⟩)) y x := by
  rw [ref_v80, add_comm]
  unfold conv
  refine congrArg (bp (ix1 ⟨32 * h.val + d.val, by omega⟩) + ·) (Finset.sum_congr rfl fun k _ => Finset.sum_congr rfl fun j _ => ?_)
  rw [ref_v74, ref_v59, ref_v44, mul_comm]
  simp only [ref_v43]
  have h1 : (7 * k.val + j.val) / 7 = k.val := by omega
  have h2 : (7 * k.val + j.val) % 7 = j.val := by omega
  simp only [h1, h2]

theorem ref_posn (i : Fin 2) (a : Fin 32) (s : Fin 2) (b : Fin 32) (t : Fin 2) (h : Fin 8) (d : Fin 32) :
    val_main_v129 (F := Ideal) U Wk bk Wp bp (ix3 i ⟨64 * (2 * a.val + s.val) + (2 * b.val + t.val), by omega⟩ ⟨32 * h.val + d.val, by omega⟩)
      = posn U Wk bk Wp bp i a s b t h d := by
  refine (ref_v129 U Wk bk Wp bp i ⟨2 * a.val + s.val, by omega⟩ ⟨2 * b.val + t.val, by omega⟩ _).trans ?_
  unfold posn
  rw [← weight_sum]
  refine Finset.sum_congr rfl fun x _ => ?_
  rw [ref_v124, mul_comm, ← weight_sum]
  refine congrArg (weight b t x * ·) (Finset.sum_congr rfl fun y _ => ?_)
  rw [ref_v102, ref_conv]

end Cert.MainIdeal.Val

end
-- ==== Proof.MainResults.lean ====
module

public import proofs.«01_k».proof.Proof.MainRefPe
public import proofs.«01_k».proof.Proof.Gen.Pre_finite1
public import proofs.«01_k».proof.Defs
public import Idealize.ShloMosaic.Lib.ReduceAll

/-! The six result arrays of the kernel are those of the reference. -/

@[expose] public section

set_option maxRecDepth 16384

noncomputable section

open Idealize.ShloMosaic Idealize.ShloMosaic.TcCoe Idealize.SL.Sem

namespace Cert.MainIdeal.Val

open Cert.MainIdeal Cert.MainIdeal.Gen
open Cert.MainRefIdeal.Read

/-! ### Finite arguments -/

theorem top_word : Ideal.ofBits .f32 0x7F800000#32 = ⊤ := by
  simp [Ideal.ofBits, Ideal.ieee]

theorem real_of_abs (x : EReal) (h : Ideal.cmp .olt (max x (-x)) (Ideal.ofBits .f32 0x7F800000#32) = 1#1) : IsReal x := by
  rw [top_word] at h
  have h' : max x (-x) < ⊤ := by
    by_contra hn
    simp [Ideal.cmp, hn] at h
  induction x using EReal.rec with
  | bot => simp at h'
  | top => simp at h'
  | coe r => exact ⟨r, rfl⟩

theorem all_real {s t u : Shape} [Subsingleton t.Idx] {axes : List (Fin s.rank)} (a : FVec Ideal s .f32) (inf : FVec Ideal s .f32)
    (hinf : ∀ i, inf i = Ideal.ofBits .f32 0x7F800000#32) (init : u.Idx → BitVec 1) (h : s.ReducesTo axes t) (hu : 0 < u.numel) (j : t.Idx)
    (e : Host.reduce IntOp.andi (cmpf .olt (Host.absf a) inf) init h hu j = 1#1) (i : s.Idx) : IsReal (a i) := by
  have h1 := Host.reduce_andi_all _ init h hu j e i
  refine real_of_abs (a i) ?_
  rw [← hinf i]
  exact h1

theorem pre_real (X : FVec Ideal S2x256x64x64 .f32) (U : FVec Ideal S2x256x32x32 .f32) (Wq : FVec Ideal S256x256x1x1 .f32) (bq : FVec Ideal S256 .f32)
    (Wk : FVec Ideal S512x256x1x1 .f32) (bk : FVec Ideal S512 .f32) (Wp : FVec Ideal S256x1x7x7 .f32) (bp : FVec Ideal S256 .f32)
    (h : Cert.Pre_finite1.fn (F := Ideal) X U Wq bq Wk bk Wp bp = fun _ => 1#1) :
    (∀ i, IsReal (X i)) ∧ (∀ i, IsReal (U i)) ∧ (∀ i, IsReal (Wq i)) ∧ (∀ i, IsReal (bq i)) ∧ (∀ i, IsReal (Wk i)) ∧ (∀ i, IsReal (bk i)) := by
  have : Subsingleton Cert.Pre_finite1.S_.Idx := ⟨fun a b => funext fun k => k.elim0⟩
  have h0 := congrFun h (fun k => k.elim0)
  unfold Cert.Pre_finite1.fn Cert.Pre_finite1.fn_part1 at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨all_real X _ (fun _ => rfl) _ _ _ _ e0, all_real U _ (fun _ => rfl) _ _ _ _ e1, all_real Wq _ (fun _ => rfl) _ _ _ _ e2,
    all_real bq _ (fun _ => rfl) _ _ _ _ e3, all_real Wk _ (fun _ => rfl) _ _ _ _ e4, all_real bk _ (fun _ => rfl) _ _ _ _ e5⟩

theorem lin_real {n : ℕ} {x : Fin 256 → EReal} {w : Fin n → Fin 256 → EReal} {b : Fin n → EReal} (hx : ∀ k, IsReal (x k)) (hw : ∀ o k, IsReal (w o k))
    (hb : ∀ o, IsReal (b o)) (o : Fin n) : IsReal (lin x w b o) :=
  (IsReal.sum fun k => (hx k).mul (hw o k)).add (hb o)

/-- For finite arguments the reference's attention is the kernel's. -/
theorem ref_coarse (X : FVec Ideal S2x256x64x64 .f32) (U : FVec Ideal S2x256x32x32 .f32) (Wq : FVec Ideal S256x256x1x1 .f32) (bq : FVec Ideal S256 .f32)
    (Wk : FVec Ideal S512x256x1x1 .f32) (bk : FVec Ideal S512 .f32) (hX : ∀ i, IsReal (X i)) (hU : ∀ i, IsReal (U i)) (hWq : ∀ i, IsReal (Wq i))
    (hbq : ∀ i, IsReal (bq i)) (hWk : ∀ i, IsReal (Wk i)) (hbk : ∀ i, IsReal (bk i)) (i : Fin 2) (n : Fin 4096) (h : Fin 8) (d : Fin 32) :
    val_main_v41 (F := Ideal) X U Wq bq Wk bk (ix3 i n ⟨32 * h.val + d.val, by omega⟩) = coarse X U Wq bq Wk bk i n h d := by
  have hq : ∀ o, IsReal (lin (xs X i n) (fun o k => Wq (ix4 o k 0 0)) (fun o => bq (ix1 o)) o) :=
    lin_real (fun _ => hX _) (fun _ _ => hWq _) (fun _ => hbq _)
  have hk : ∀ m o, IsReal (coarseKv U Wk bk i m o) := fun m => lin_real (fun _ => hU _) (fun _ _ => hWk _) (fun _ => hbk _)
  have hM : IsReal (val_main_v30 (F := Ideal) X U Wq bq Wk bk (ix3 i h n)) := by
    rw [ref_v30]
    exact fold_max_real _ fun m => (IsReal.sum fun e => (hq _).mul (hk m _)).mul scale_real
  refine (ref_v41 X U Wq bq Wk bk i n h d).trans ?_
  exact soft_eq (fun e => lin (xs X i n) (fun o k => Wq (ix4 o k 0 0)) (fun o => bq (ix1 o)) ⟨32 * h.val + e.val, by omega⟩)
    (fun m e => coarseKv U Wk bk i m ⟨64 * h.val + e.val, by omega⟩) (fun m => coarseKv U Wk bk i m ⟨64 * h.val + 32 + d.val, by omega⟩) _
    (fun _ => hq _) (fun m _ => hk m _) (fun m => hk m _) hM

/-! ### The arrays -/

variable (m : (ℓ : Loc nD τ sig) → Buf (Elt Ideal) ℓ)

theorem res0 (c : Dev nD) : val_main_v131 (F := Ideal) (m ((c : Thread nD τ).loc main_arg0)) (m ((c : Thread nD τ).loc main_arg2)) (m ((c : Thread nD τ).loc main_arg3)) = (dats m 0 c).arrAt 8 (cfgs 0).N := by
  funext y
  obtain ⟨i, n, o, rfl⟩ : ∃ (i : Fin 2) (n : Fin 4096) (o : Fin 256), y = ix3 i n o := ⟨y 0, y 1, y 2, eq_ix3 y⟩
  exact (ref_v131 _ _ _ i n o).trans (final8 m c i n o).symm

theorem res1 (c : Dev nD) : val_main_v11 (F := Ideal) (m ((c : Thread nD τ).loc main_arg0)) (m ((c : Thread nD τ).loc main_arg4)) (m ((c : Thread nD τ).loc main_arg5)) = (dats m 0 c).arrAt 9 (cfgs 0).N := by
  funext y
  obtain ⟨i, n, o, rfl⟩ : ∃ (i : Fin 2) (n : Fin 4096) (o : Fin 512), y = ix3 i n o := ⟨y 0, y 1, y 2, eq_ix3 y⟩
  exact (ref_v11 _ _ _ i n o).trans (final9 m c i n o).symm

theorem res2 (c : Dev nD) : val_main_v16 (F := Ideal) (m ((c : Thread nD τ).loc main_arg1)) (m ((c : Thread nD τ).loc main_arg4)) (m ((c : Thread nD τ).loc main_arg5)) = (dats m 0 c).arrAt 10 (cfgs 0).N := by
  funext y
  obtain ⟨i, n, o, rfl⟩ : ∃ (i : Fin 2) (n : Fin 1024) (o : Fin 512), y = ix3 i n o := ⟨y 0, y 1, y 2, eq_ix3 y⟩
  exact (ref_v16 _ _ _ i n o).trans (final10 m c i n o).symm

theorem res3 (c : Dev nD) : val_main_v135 (F := Ideal) (m ((c : Thread nD τ).loc main_arg0)) (m ((c : Thread nD τ).loc main_arg2)) (m ((c : Thread nD τ).loc main_arg3)) = (dats m 0 c).arrAt 11 (cfgs 0).N := by
  funext y
  obtain ⟨i, o, rfl⟩ : ∃ (i : Fin 2) (o : Fin 256), y = ix3 i 0 o := ⟨y 0, y 2, by blk_ext⟩
  exact (ref_v135 _ _ _ i o).trans (final11 m c i o).symm

theorem res4 (c : Dev nD) (h : Cert.Pre_finite1.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) : val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 12 (cfgs 0).N := by
  obtain ⟨hX, hU, hWq, hbq, hWk, hbk⟩ := pre_real _ _ _ _ _ _ _ _ h
  funext y
  obtain ⟨i, n, o, rfl⟩ : ∃ (i : Fin 2) (n : Fin 4096) (o : Fin 256), y = ix3 i n o := ⟨y 0, y 1, y 2, eq_ix3 y⟩
  obtain ⟨h, d, rfl⟩ : ∃ (h : Fin 8) (d : Fin 32), o = ⟨32 * h.val + d.val, by omega⟩ :=
    ⟨⟨o.val / 32, by omega⟩, ⟨o.val % 32, by omega⟩, Fin.ext (by show o.val = 32 * (o.val / 32) + o.val % 32; omega)⟩
  exact (ref_coarse _ _ _ _ _ _ hX hU hWq hbq hWk hbk i n h d).trans (final12 m c i n h d).symm

theorem res5 (c : Dev nD) : val_main_v129 (F := Ideal) (m ((c : Thread nD τ).loc main_arg1)) (m ((c : Thread nD τ).loc main_arg4)) (m ((c : Thread nD τ).loc main_arg5)) (m ((c : Thread nD τ).loc main_arg6)) (m ((c : Thread nD τ).loc main_arg7)) = (dats m 0 c).arrAt 13 (cfgs 0).N := by
  funext y
  obtain ⟨i, n, o, rfl⟩ : ∃ (i : Fin 2) (n : Fin 4096) (o : Fin 256), y = ix3 i n o := ⟨y 0, y 1, y 2, eq_ix3 y⟩
  obtain ⟨h, d, rfl⟩ : ∃ (h : Fin 8) (d : Fin 32), o = ⟨32 * h.val + d.val, by omega⟩ :=
    ⟨⟨o.val / 32, by omega⟩, ⟨o.val % 32, by omega⟩, Fin.ext (by show o.val = 32 * (o.val / 32) + o.val % 32; omega)⟩
  obtain ⟨a, s, b, t, rfl⟩ : ∃ (a : Fin 32) (s : Fin 2) (b : Fin 32) (t : Fin 2), n = ⟨64 * (2 * a.val + s.val) + (2 * b.val + t.val), by omega⟩ :=
    ⟨⟨n.val / 128, by omega⟩, ⟨n.val / 64 % 2, by omega⟩, ⟨n.val % 64 / 2, by omega⟩, ⟨n.val % 2, by omega⟩,
      Fin.ext (by show n.val = 64 * (2 * (n.val / 128) + n.val / 64 % 2) + (2 * (n.val % 64 / 2) + n.val % 2); omega)⟩
  exact (ref_posn _ _ _ _ _ i a s b t h d).trans (final13 m c i a s b t h d).symm

end Cert.MainIdeal.Val

end
-- ==== Proof.FinePure.lean ====
module

public import proofs.«01_k».proof.Proof.Gen.FineIdeal.Value
public import Idealize.ShloMosaic.Lib.Pointwise
public import Idealize.ShloMosaic.Lib.IdealHost
public import Idealize.ShloMosaic.Lib.Claim
public import Idealize.ShloMosaic.Lib.Pipeline.ValueKit

/-! What the fine attention's body stores, read entry by entry over the extended reals. -/

@[expose] public section

set_option maxRecDepth 16384

noncomputable section

namespace Cert.FineIdeal.Val

open Idealize.ShloMosaic Idealize.ShloMosaic.TcCoe Idealize.SL.Sem
open Cert.FineIdeal Cert.FineIdeal.Gen

/-- The weight of one selected row for one query, before it is normalised. -/
def weight (q : Fin 256 → EReal) (tk : Fin 128 → Fin 256 → EReal) (j : Fin 128) : EReal :=
  Ideal.exp (∑ e, q e * tk j e)

/-- One entry of the refined attention of one query over all selected rows. -/
def refine1 (q : Fin 256 → EReal) (tk tv ob : Fin 128 → Fin 256 → EReal) (o : Fin 256) : EReal :=
  Ideal.div (∑ j, weight q tk j * tv j o) (∑ j, weight q tk j * ob j o)

/-- One entry of the gate. -/
def gate1 (co ro : Fin 256 → EReal) (bc br : Fin 256 → Fin 256 → EReal) (b : Fin 256 → EReal) (o : Fin 256) : EReal :=
  Ideal.logistic ((∑ k, co k * bc k o) + (∑ k, ro k * br k o) + b o)

/-- One entry of the mix of the refined and the coarse attention, with the position encoding. -/
def mix1 (g ro co pe : EReal) : EReal := g * ro + (1 - g) * co + pe

theorem ro_at (q : FVec Ideal S1x1024x256 .f32) (tk tv : FVec Ideal S1x128x256 .f32) (ob : FVec Ideal S128x256 .f32) (r : Fin 1024) (o : Fin 256) :
    k0_pay3 (F := Ideal) q tk tv ob (ix2 r o)
      = refine1 (fun e => q (ix3 0 r e)) (fun j e => tk (ix3 0 j e)) (fun j e => tv (ix3 0 j e)) (fun j e => ob (ix2 j e)) o := by
  pointwise [k0_pay3, refine1, weight]

theorem gate_at (q co : FVec Ideal S1x1024x256 .f32) (tk tv : FVec Ideal S1x128x256 .f32) (ob : FVec Ideal S128x256 .f32)
    (bc br : FVec Ideal S256x256 .f32) (b : FVec Ideal S1x256 .f32) (r : Fin 1024) (o : Fin 256) :
    k0_pay4 (F := Ideal) q co tk tv ob bc br b (ix2 r o)
      = gate1 (fun k => co (ix3 0 r k)) (fun k => k0_pay3 (F := Ideal) q tk tv ob (ix2 r k)) (fun k o => bc (ix2 k o)) (fun k o => br (ix2 k o))
          (fun o => b (ix2 0 o)) o := by
  generalize hR : k0_pay3 (F := Ideal) q tk tv ob = R
  unfold k0_pay4
  rw [hR]
  pointwise [k0_pay2, gate1]

theorem out_at (q co pe : FVec Ideal S1x1024x256 .f32) (tk tv : FVec Ideal S1x128x256 .f32) (ob : FVec Ideal S128x256 .f32)
    (bc br : FVec Ideal S256x256 .f32) (b : FVec Ideal S1x256 .f32) (pw : FVec Ideal S256x256 .f32) (pb : FVec Ideal S1x256 .f32)
    (o : Fin 256) (r : Fin 1024) :
    out0_11 (F := Ideal) q co pe tk tv ob bc br b pw pb (ix3 0 o r)
      = (∑ k, pw (ix2 o k) * mix1 (k0_pay4 (F := Ideal) q co tk tv ob bc br b (ix2 r k)) (k0_pay3 (F := Ideal) q tk tv ob (ix2 r k))
            (co (ix3 0 r k)) (pe (ix3 0 r k))) + pb (ix2 0 o) := by
  unfold out0_11
  rw [View.canon_cons_unit_lit _ _ _ (by decide)]
  simp (disch := decide) only [View.ld_unit_lit']
  unfold k0_pay5 k0_pay6
  generalize hR : k0_pay3 (F := Ideal) q tk tv ob = R
  generalize hG : k0_pay4 (F := Ideal) q co tk tv ob bc br b = G
  pointwise [k0_pay1, k0_pay2, mix1, Ideal.ofBits_one_f32]

end Cert.FineIdeal.Val

end
-- ==== Proof.FineBlocks.lean ====
module

public import proofs.«01_k».proof.Proof.FinePure
public import Idealize.ShloMosaic.Lib.Claim

/-! The blocks the fine attention's body reads, as functions of the arguments. -/

@[expose] public section

set_option maxRecDepth 16384

noncomputable section

namespace Cert.FineIdeal.Val

open Idealize.ShloMosaic Idealize.ShloMosaic.TcCoe Idealize.SL.Sem
open Idealize.ShloMosaic.Pipeline (Dat)
open Cert.FineIdeal Cert.FineIdeal.Gen

variable (m : (ℓ : Loc nD τ sig) → Buf (Elt Ideal) ℓ)

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] ∧ win0_4.index t = ![t.val / 4, 0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![t.val / 4, 0, t.val % 4] ∧ t.val / 4 < 2 ∧ t.val % 4 < 4 :=
  (by decide +kernel : ∀ t : Fin grid0.N, _)

theorem quot_lt (t : Fin cfg0.N) : t.val / 4 < 2 := (idx t).2.2.2.2.2.2.2.2.2.2.2.2.1
theorem rem_lt (t : Fin cfg0.N) : t.val % 4 < 4 := Nat.mod_lt _ (by decide)

/-- The image of a grid point's block. -/
abbrev im (t : Fin cfg0.N) : Fin 2 := ⟨t.val / 4, quot_lt t⟩
/-- The pixel of a row of a grid point's block. -/
abbrev px (t : Fin cfg0.N) (r : Fin 1024) : Fin 4096 := ⟨t.val % 4 * 1024 + r.val, by have := rem_lt t; omega⟩

theorem blk_q (c : Dev nD) (t : Fin cfg0.N) (r : Fin 1024) (e : Fin 256) :
    iblk m c 0 t (ix3 0 r e) = m ((c : Thread nD τ).loc main_arg0) (ix3 (im t) (px t r) e) := by
  blk_simp [iblk, idx t]
  entry_read
  pointwise []
  blk_ext [idx t]

theorem blk_co (c : Dev nD) (t : Fin cfg0.N) (r : Fin 1024) (e : Fin 256) :
    iblk m c 1 t (ix3 0 r e) = m ((c : Thread nD τ).loc main_arg1) (ix3 (im t) (px t r) e) := by
  blk_simp [iblk, idx t]
  entry_read
  pointwise []
  blk_ext [idx t]

theorem blk_pe (c : Dev nD) (t : Fin cfg0.N) (r : Fin 1024) (e : Fin 256) :
    iblk m c 2 t (ix3 0 r e) = m ((c : Thread nD τ).loc main_arg2) (ix3 (im t) (px t r) e) := by
  blk_simp [iblk, idx t]
  entry_read
  pointwise []
  blk_ext [idx t]

theorem blk_tk (c : Dev nD) (t : Fin cfg0.N) (j : Fin 128) (e : Fin 256) :
    iblk m c 3 t (ix3 0 j e) = m ((c : Thread nD τ).loc main_arg3) (ix3 (im t) j e) := by
  blk_simp [iblk, idx t]
  entry_read
  pointwise []
  blk_ext [idx t]

theorem blk_tv (c : Dev nD) (t : Fin cfg0.N) (j : Fin 128) (e : Fin 256) :
    iblk m c 4 t (ix3 0 j e) = m ((c : Thread nD τ).loc main_arg4) (ix3 (im t) j e) := by
  blk_simp [iblk, idx t]
  entry_read
  pointwise []
  blk_ext [idx t]

end Cert.FineIdeal.Val

end
-- ==== Proof.FineHost.lean ====
module

public import proofs.«01_k».proof.Proof.FineBlocks

/-! The arrays the host lays out for the fine attention, and the blocks of them that its body reads. -/

@[expose] public section

set_option maxRecDepth 16384

noncomputable section

namespace Cert.FineIdeal.Val

open Idealize.ShloMosaic Idealize.ShloMosaic.TcCoe Idealize.SL.Sem
open Idealize.ShloMosaic.Pipeline (Dat)
open Cert.FineIdeal Cert.FineIdeal.Gen

variable (m : (ℓ : Loc nD τ sig) → Buf (Elt Ideal) ℓ)

/-- The bits of the 8 by 8 identity. -/
def eyeBit : IVec S8x8 1 :=
  cmpi .eq (addi (iotaInDim S8x8 32 0) (broadcastInDim S8x8 ![] bcast_S_S8x8 (constantI S_ 32 0#32))) (iotaInDim S8x8 32 1)

/-- Eight copies of a 32 by 32 matrix along the diagonal. -/
def kron (w : FVec Ideal S32x32 .f32) : FVec Ideal S256x256 .f32 :=
  shapeCast S256x256
    (mulf
      (broadcastInDim S8x32x8x32 ![0, 1, 2, 3] bcast_S8x1x8x1_S8x32x8x32_0_1_2_3 (broadcastInDim S8x1x8x1 ![0, 2] bcast_S8x8_S8x1x8x1_0_2 (uitofp .f32 eyeBit)))
      (broadcastInDim S8x32x8x32 ![0, 1, 2, 3] bcast_S1x32x1x32_S8x32x8x32_0_1_2_3 (broadcastInDim S1x32x1x32 ![1, 3] bcast_S32x32_S1x32x1x32_1_3 w)))
    shapeCasts_S8x32x8x32_S256x256

/-- The head of a selected row. -/
def quoRow : IVec S128x1 32 :=
  select
    (andi
      (cmpi .ne (signi (broadcastInDim S128x1 ![0] bcast_S128_S128x1_0 (iotaInDim S128 32 0))) (broadcastInDim S128x1 ![] bcast_S_S128x1 (signi (constantI S_ 32 16#32))))
      (cmpi .ne (Host.remsi (broadcastInDim S128x1 ![0] bcast_S128_S128x1_0 (iotaInDim S128 32 0)) (broadcastInDim S128x1 ![] bcast_S_S128x1 (constantI S_ 32 16#32))) (broadcastInDim S128x1 ![] bcast_S_S128x1 (constantI S_ 32 0#32))))
    (subi (Host.divsi (broadcastInDim S128x1 ![0] bcast_S128_S128x1_0 (iotaInDim S128 32 0)) (broadcastInDim S128x1 ![] bcast_S_S128x1 (constantI S_ 32 16#32))) (broadcastInDim S128x1 ![] bcast_S_S128x1 (constantI S_ 32 1#32)))
    (Host.divsi (broadcastInDim S128x1 ![0] bcast_S128_S128x1_0 (iotaInDim S128 32 0)) (broadcastInDim S128x1 ![] bcast_S_S128x1 (constantI S_ 32 16#32)))

/-- The head of a column. -/
def quoCol : IVec S1x256 32 :=
  select
    (andi
      (cmpi .ne (signi (broadcastInDim S1x256 ![1] bcast_S256_S1x256_1 (iotaInDim S256 32 0))) (broadcastInDim S1x256 ![] bcast_S_S1x256 (signi (constantI S_ 32 32#32))))
      (cmpi .ne (Host.remsi (broadcastInDim S1x256 ![1] bcast_S256_S1x256_1 (iotaInDim S256 32 0)) (broadcastInDim S1x256 ![] bcast_S_S1x256 (constantI S_ 32 32#32))) (broadcastInDim S1x256 ![] bcast_S_S1x256 (constantI S_ 32 0#32))))
    (subi (Host.divsi (broadcastInDim S1x256 ![1] bcast_S256_S1x256_1 (iotaInDim S256 32 0)) (broadcastInDim S1x256 ![] bcast_S_S1x256 (constantI S_ 32 32#32))) (broadcastInDim S1x256 ![] bcast_S_S1x256 (constantI S_ 32 1#32)))
    (Host.divsi (broadcastInDim S1x256 ![1] bcast_S256_S1x256_1 (iotaInDim S256 32 0)) (broadcastInDim S1x256 ![] bcast_S_S1x256 (constantI S_ 32 32#32)))

/-- Whether a selected row and a column belong to the same head. -/
def headBit : IVec S128x256 1 :=
  cmpi .eq (broadcastInDim S128x256 ![0, 1] bcast_S128x1_S128x256_0_1 quoRow) (broadcastInDim S128x256 ![0, 1] bcast_S1x256_S128x256_0_1 quoCol)

theorem eyeBit_at : ∀ a b : Fin 8, eyeBit (ix2 a b) = if a = b then 1#1 else 0#1 := by decide +kernel

theorem quoRow_at : ∀ j : Fin 128, quoRow (ix2 j 0) = BitVec.ofNat 32 (j.val / 16) := by decide +kernel

theorem quoCol_at : ∀ o : Fin 256, quoCol (ix2 0 o) = BitVec.ofNat 32 (o.val / 32) := by decide +kernel

set_option maxHeartbeats 2000000 in
theorem V_v0 (c : Dev nD) : (V m c main_v0 : FVec Ideal S256x256 .f32)
    = shapeCast S256x256 (m (c, Proc.tc.devRef main_arg7) : FVec Ideal S256x256x1x1 .f32) shapeCasts_S256x256x1x1_S256x256 := by
  dsimp only [V]
  simp only [hostOps0, hostOps0_1, hostOps0_2, hostOps0_3, hostOps0_4, hostOps0_5, hostOps0_6, hostOps0_7, hostOps0_8, List.flatten_cons, List.flatten_nil,
    List.append_nil, List.cons_append, List.nil_append]
  simp only [Idealize.ShloMosaic.StableHlo.after_cons, Idealize.ShloMosaic.StableHlo.after_nil]
  after_results_simp
  rfl

set_option maxHeartbeats 2000000 in
theorem V_v1 (c : Dev nD) : (V m c main_v1 : FVec Ideal S1x256 .f32)
    = shapeCast S1x256 (m (c, Proc.tc.devRef main_arg8) : FVec Ideal S256 .f32) shapeCasts_S256_S1x256 := by
  dsimp only [V]
  simp only [hostOps0, hostOps0_1, hostOps0_2, hostOps0_3, hostOps0_4, hostOps0_5, hostOps0_6, hostOps0_7, hostOps0_8, List.flatten_cons, List.flatten_nil,
    List.append_nil, List.cons_append, List.nil_append]
  simp only [Idealize.ShloMosaic.StableHlo.after_cons, Idealize.ShloMosaic.StableHlo.after_nil]
  after_results_simp
  rfl

set_option maxHeartbeats 2000000 in
theorem V_v17 (c : Dev nD) : (V m c main_v17 : FVec Ideal S1x256 .f32)
    = shapeCast S1x256 (shapeCast S256 (broadcastInDim S8x32 ![0, 1] bcast_S1x32_S8x32_0_1 (shapeCast S1x32 (m (c, Proc.tc.devRef main_arg6) : FVec Ideal S32 .f32) shapeCasts_S32_S1x32)) shapeCasts_S8x32_S256) shapeCasts_S256_S1x256 := by
  dsimp only [V]
  simp only [hostOps0, hostOps0_1, hostOps0_2, hostOps0_3, hostOps0_4, hostOps0_5, hostOps0_6, hostOps0_7, hostOps0_8, List.flatten_cons, List.flatten_nil,
    List.append_nil, List.cons_append, List.nil_append]
  simp only [Idealize.ShloMosaic.StableHlo.after_cons, Idealize.ShloMosaic.StableHlo.after_nil]
  after_results_simp
  rfl

set_option maxHeartbeats 2000000 in
theorem V_v10 (c : Dev nD) : (V m c main_v10 : FVec Ideal S256x256 .f32)
    = kron (transpose S32x32 [1, 0] (extractStridedSlice S32x32 ![0, 0] (m (c, Proc.tc.devRef main_arg5) : FVec Ideal S32x64 .f32) slices_S32x64_S32x32_0_0) transposes_S32x32_S32x32_1_0) := by
  dsimp only [V]
  simp only [hostOps0, hostOps0_1, hostOps0_2, hostOps0_3, hostOps0_4, hostOps0_5, hostOps0_6, hostOps0_7, hostOps0_8, List.flatten_cons, List.flatten_nil,
    List.append_nil, List.cons_append, List.nil_append]
  simp only [Idealize.ShloMosaic.StableHlo.after_cons, Idealize.ShloMosaic.StableHlo.after_nil]
  after_results_simp
  simp only [StableHlo.TRef.ofBuf_toBuf]
  rfl

set_option maxHeartbeats 2000000 in
theorem V_v13 (c : Dev nD) : (V m c main_v13 : FVec Ideal S256x256 .f32)
    = kron (transpose S32x32 [1, 0] (extractStridedSlice S32x32 ![0, 32] (m (c, Proc.tc.devRef main_arg5) : FVec Ideal S32x64 .f32) slices_S32x64_S32x32_0_32) transposes_S32x32_S32x32_1_0) := by
  dsimp only [V]
  simp only [hostOps0, hostOps0_1, hostOps0_2, hostOps0_3, hostOps0_4, hostOps0_5, hostOps0_6, hostOps0_7, hostOps0_8, List.flatten_cons, List.flatten_nil,
    List.append_nil, List.cons_append, List.nil_append]
  simp only [Idealize.ShloMosaic.StableHlo.after_cons, Idealize.ShloMosaic.StableHlo.after_nil]
  after_results_simp
  simp only [StableHlo.TRef.ofBuf_toBuf]
  rfl

set_option maxHeartbeats 2000000 in
theorem V_v27 (c : Dev nD) : (V m c main_v27 : FVec Ideal S128x256 .f32)
    = (uitofp .f32 headBit : FVec Ideal S128x256 .f32) := by
  dsimp only [V]
  simp only [hostOps0, hostOps0_1, hostOps0_2, hostOps0_3, hostOps0_4, hostOps0_5, hostOps0_6, hostOps0_7, hostOps0_8, List.flatten_cons, List.flatten_nil,
    List.append_nil, List.cons_append, List.nil_append]
  simp only [Idealize.ShloMosaic.StableHlo.after_cons, Idealize.ShloMosaic.StableHlo.after_nil]
  after_results_simp
  simp only [StableHlo.TRef.ofBuf_toBuf]
  rfl

/-- One where two numbers agree, zero elsewhere. -/
def same (a b : ℕ) : EReal := if a = b then 1 else 0

theorem uitofp_bit (p : Prop) [Decidable p] : (FloatOps.uitofp (F := Ideal) FTy.f32 (if p then 1#1 else 0#1 : BitVec 1) : EReal) = if p then 1 else 0 := by
  split_ifs
  · change (((1#1).toNat : ℝ) : EReal) = 1
    simp
  · change (((0#1).toNat : ℝ) : EReal) = 0
    simp

theorem kron_at (w : FVec Ideal S32x32 .f32) (k o : Fin 256) :
    kron w (ix2 k o) = same (k.val / 32) (o.val / 32)
      * w (ix2 ⟨k.val % 32, Nat.mod_lt _ (by decide)⟩ ⟨o.val % 32, Nat.mod_lt _ (by decide)⟩) := by
  unfold kron
  pointwise []
  rw [eyeBit_at]
  congr 1
  refine (uitofp_bit _).trans ?_
  unfold same
  exact if_congr Fin.ext_iff rfl rfl

theorem headBit_at (j : Fin 128) (o : Fin 256) : headBit (ix2 j o) = if j.val / 16 = o.val / 32 then 1#1 else 0#1 := by
  unfold headBit
  pointwise []
  rw [quoRow_at, quoCol_at]
  have : ∀ a b : Fin 8, IntOp.cmpi CmpIPredicate.eq (BitVec.ofNat 32 a.val) (BitVec.ofNat 32 b.val) = if a.val = b.val then 1#1 else 0#1 := by
    decide +kernel
  exact this ⟨j.val / 16, by omega⟩ ⟨o.val / 32, by omega⟩

theorem blk_gb (c : Dev nD) (t : Fin cfg0.N) (o : Fin 256) :
    iblk m c 8 t (ix2 0 o) = m ((c : Thread nD τ).loc main_arg6) (ix1 ⟨o.val % 32, Nat.mod_lt _ (by decide)⟩) := by
  blk_simp [iblk, idx t]
  rw [V_v17]
  pointwise []
  blk_ext [idx t]

theorem blk_pw (c : Dev nD) (t : Fin cfg0.N) (o k : Fin 256) :
    iblk m c 9 t (ix2 o k) = m ((c : Thread nD τ).loc main_arg7) (ix4 o k 0 0) := by
  blk_simp [iblk, idx t]
  rw [V_v0]
  pointwise []
  blk_ext [idx t]

theorem blk_pb (c : Dev nD) (t : Fin cfg0.N) (o : Fin 256) :
    iblk m c 10 t (ix2 0 o) = m ((c : Thread nD τ).loc main_arg8) (ix1 o) := by
  blk_simp [iblk, idx t]
  rw [V_v1]
  pointwise []
  blk_ext [idx t]

theorem blk_ob (c : Dev nD) (t : Fin cfg0.N) (j : Fin 128) (o : Fin 256) :
    (iblk m c 5 t (ix2 j o) : EReal) = same (j.val / 16) (o.val / 32) := by
  blk_simp [iblk, idx t]
  rw [V_v27]
  have e : (win0_5.blk t).view.emb (ix2 j o) = ix2 j o := by blk_ext [idx t]
  rw [e]
  change FloatOps.uitofp FTy.f32 (headBit (ix2 j o)) = _
  rw [headBit_at]
  exact uitofp_bit _

theorem blk_bc (c : Dev nD) (t : Fin cfg0.N) (k o : Fin 256) :
    (iblk m c 6 t (ix2 k o) : EReal) = same (k.val / 32) (o.val / 32)
      * (m ((c : Thread nD τ).loc main_arg5) : FVec Ideal S32x64 .f32)
        (ix2 ⟨o.val % 32, Nat.mod_lt _ (by decide)⟩ ⟨k.val % 32, by have := Nat.mod_lt k.val (show 0 < 32 by decide); omega⟩) := by
  blk_simp [iblk, idx t]
  rw [V_v10]
  have e : (win0_6.blk t).view.emb (ix2 k o) = ix2 k o := by blk_ext [idx t]
  rw [e, kron_at]
  pointwise []

theorem blk_br (c : Dev nD) (t : Fin cfg0.N) (k o : Fin 256) :
    (iblk m c 7 t (ix2 k o) : EReal) = same (k.val / 32) (o.val / 32)
      * (m ((c : Thread nD τ).loc main_arg5) : FVec Ideal S32x64 .f32)
        (ix2 ⟨o.val % 32, Nat.mod_lt _ (by decide)⟩ ⟨32 + k.val % 32, by have := Nat.mod_lt k.val (show 0 < 32 by decide); omega⟩) := by
  blk_simp [iblk, idx t]
  rw [V_v13]
  have e : (win0_7.blk t).view.emb (ix2 k o) = ix2 k o := by blk_ext [idx t]
  rw [e, kron_at]
  pointwise []

end Cert.FineIdeal.Val

end
-- ==== Proof.FineRef.lean ====
module

public import proofs.«01_k».proof.Proof.Gen.FineRefIdeal.Read
public import Idealize.ShloMosaic.Lib.Pointwise
public import Idealize.ShloMosaic.Lib.IdealHost
public import Idealize.ShloMosaic.Lib.Claim
public import Idealize.ShloMosaic.Lib.Pipeline.ValueKit

/-! The reference of the fine attention, read entry by entry over the extended reals. -/

@[expose] public section

set_option maxRecDepth 16384

noncomputable section

namespace Cert.FineRefIdeal.Val

open Idealize.ShloMosaic Idealize.ShloMosaic.TcCoe Idealize.SL.Sem
open Cert.FineRefIdeal Cert.FineRefIdeal.Gen Cert.FineRefIdeal.Read

variable (Q C P : FVec Ideal S2x4096x256 .f32) (K V : FVec Ideal S2x128x256 .f32) (Wg : FVec Ideal S32x64 .f32) (bg : FVec Ideal S32 .f32)
  (Wp : FVec Ideal S256x256x1x1 .f32) (bp : FVec Ideal S256 .f32)

/-- The row of the selected rows that head `h` has at place `m`. -/
abbrev row (h : Fin 8) (m : Fin 16) : Fin 128 := ⟨16 * h.val + m.val, by omega⟩
/-- The column of head `h` at place `e`. -/
abbrev col (h : Fin 8) (e : Fin 32) : Fin 256 := ⟨32 * h.val + e.val, by omega⟩

/-- The selected row of one head, from the rows laid out over all heads' columns. -/
def own (K : FVec Ideal S2x128x256 .f32) (i : Fin 2) (h : Fin 8) (m : Fin 16) (e : Fin 32) : EReal :=
  ∑ g : Fin 8, K (ix3 i (row h m) (col g e))

theorem ref_v1 (i : Fin 2) (h : Fin 8) (m : Fin 16) (e : Fin 32) :
    val_main_v1 (F := Ideal) K (ix4 i h m e) = own K i h m e := by
  pointwise [val_main_v1, val_main_v0, val_main_cst, own]
  refine Finset.sum_congr rfl fun g _ => congrArg K ?_
  blk_ext

theorem ref_v3 (i : Fin 2) (h : Fin 8) (m : Fin 16) (e : Fin 32) :
    val_main_v3 (F := Ideal) V (ix4 i h m e) = own V i h m e := ref_v1 V i h m e

theorem ref_v5 (i : Fin 2) (h : Fin 8) (n : Fin 4096) (e : Fin 32) :
    val_main_v5 (F := Ideal) Q (ix4 i h n e) = Q (ix3 i n (col h e)) := by
  pointwise [val_main_v5, val_main_v4]
  blk_ext

theorem ref_v20 (i : Fin 2) (h : Fin 8) (n : Fin 4096) (e : Fin 32) :
    val_main_v20 (F := Ideal) C (ix4 i h n e) = C (ix3 i n (col h e)) := ref_v5 C i h n e

/-- The score of a query against a selected row. -/
def score (i : Fin 2) (h : Fin 8) (n : Fin 4096) (m : Fin 16) : EReal :=
  ∑ e : Fin 32, Q (ix3 i n (col h e)) * own K i h m e

theorem ref_v6 (i : Fin 2) (h : Fin 8) (n : Fin 4096) (m : Fin 16) :
    val_main_v6 (F := Ideal) Q K (ix4 i h n m) = score Q K i h n m := by
  pointwise [val_main_v6]
  simp only [ref_v5, ref_v1]
  rfl

theorem score_max (v : FVec Ideal S2x8x4096x16 .f32) (c : FVec Ideal S_ .f32) (i : Fin 2) (h : Fin 8) (n : Fin 4096) :
    Host.reduce FloatOps.maximumf v c reducesTo_S2x8x4096x16_S2x8x4096_d3 h_S_ (ix3 i h n)
      = Finset.univ.fold max (c (Shape.Idx.first h_S_)) fun m : Fin 16 => v (ix4 i h n m) := by
  pointwise []

theorem low : Ideal.ofBits .f32 0xFF800000#32 = ⊥ := by
  simp [Ideal.ofBits, Ideal.ieee]

theorem ref_v7 (i : Fin 2) (h : Fin 8) (n : Fin 4096) :
    val_main_v7 (F := Ideal) Q K (ix3 i h n) = Finset.univ.fold max ⊥ fun m => score Q K i h n m := by
  refine (score_max _ _ i h n).trans ?_
  simp only [ref_v6]
  rw [val_main_cst_1_apply]
  exact congrArg (fun b => Finset.univ.fold max b fun m => score Q K i h n m) low

theorem maximum_at (a b : FVec Ideal S2x8x4096 .f32) (i : Fin 2) (h : Fin 8) (n : Fin 4096) :
    maximumf a b (ix3 i h n) = max (a (ix3 i h n)) (b (ix3 i h n)) := rfl

theorem ref_v9 (i : Fin 2) (h : Fin 8) (n : Fin 4096) :
    val_main_v9 (F := Ideal) Q K (ix3 i h n) = max ⊥ (Finset.univ.fold max ⊥ fun m => score Q K i h n m) := by
  refine (maximum_at (val_main_v8 (F := Ideal)) (val_main_v7 (F := Ideal) Q K) i h n).trans ?_
  rw [ref_v7]
  refine congrArg (fun b => max b (Finset.univ.fold max ⊥ fun m => score Q K i h n m)) ?_
  rw [val_main_v8_apply, val_main_cst_2_apply]
  exact low

theorem ref_v13 (i : Fin 2) (h : Fin 8) (n : Fin 4096) (m : Fin 16) :
    val_main_v13 (F := Ideal) Q K (ix4 i h n m) = Ideal.exp (score Q K i h n m - val_main_v9 (F := Ideal) Q K (ix3 i h n)) := by
  pointwise [val_main_v13, val_main_v12, val_main_v11, val_main_v10]
  rw [ref_v6]

theorem ref_v18 (i : Fin 2) (h : Fin 8) (n : Fin 4096) (d : Fin 32) :
    val_main_v18 (F := Ideal) Q K V (ix4 i h n d)
      = ∑ m : Fin 16, Ideal.div (Ideal.exp (score Q K i h n m - val_main_v9 (F := Ideal) Q K (ix3 i h n)))
          (∑ m : Fin 16, Ideal.exp (score Q K i h n m - val_main_v9 (F := Ideal) Q K (ix3 i h n))) * own V i h m d := by
  pointwise [val_main_v18, val_main_v17, val_main_v16, val_main_v15, val_main_v14, val_main_cst_3]
  simp only [ref_v13, ref_v3, Ideal.ofBits_zero_f32, zero_add]

/-- One entry of the gate, the coarse attention's half of the weights first. -/
def gate (co ro : Fin 32 → EReal) (d : Fin 32) : EReal :=
  Ideal.logistic ((∑ k : Fin 32, co k * Wg (ix2 d ⟨k.val, by omega⟩)) + (∑ k : Fin 32, ro k * Wg (ix2 d ⟨32 + k.val, by omega⟩)) + bg (ix1 d))

theorem sum_halves (f : Fin 64 → EReal) : ∑ k, f k = (∑ k : Fin 32, f ⟨k.val, by omega⟩) + ∑ k : Fin 32, f ⟨32 + k.val, by omega⟩ :=
  Fin.sum_univ_add (a := 32) (b := 32) f

theorem ref_v21_left (i : Fin 2) (h : Fin 8) (n : Fin 4096) (k : Fin 32) :
    val_main_v21 (F := Ideal) Q C K V (ix4 i h n ⟨k.val, by omega⟩) = C (ix3 i n (col h k)) := by
  rw [← ref_v20 C i h n k]
  generalize hV : val_main_v18 (F := Ideal) Q K V = R
  unfold val_main_v21
  rw [hV]
  generalize val_main_v20 (F := Ideal) C = S
  pointwise []

theorem ref_v21_right (i : Fin 2) (h : Fin 8) (n : Fin 4096) (k : Fin 32) :
    val_main_v21 (F := Ideal) Q C K V (ix4 i h n ⟨32 + k.val, by omega⟩) = val_main_v18 (F := Ideal) Q K V (ix4 i h n k) := by
  generalize hV : val_main_v18 (F := Ideal) Q K V = R
  unfold val_main_v21
  rw [hV]
  generalize val_main_v20 (F := Ideal) C = S
  pointwise []

theorem ref_v22 (i : Fin 2) (h : Fin 8) (n : Fin 4096) (d : Fin 32) :
    val_main_v22 (F := Ideal) Q C K V Wg (ix4 i h n d)
      = (∑ k : Fin 32, C (ix3 i n (col h k)) * Wg (ix2 d ⟨k.val, by omega⟩))
        + ∑ k : Fin 32, val_main_v18 (F := Ideal) Q K V (ix4 i h n k) * Wg (ix2 d ⟨32 + k.val, by omega⟩) := by
  have e : val_main_v22 (F := Ideal) Q C K V Wg (ix4 i h n d) = ∑ k : Fin 64, val_main_v21 (F := Ideal) Q C K V (ix4 i h n k) * Wg (ix2 d k) := by
    pointwise [val_main_v22]
  rw [e, sum_halves]
  simp only [ref_v21_left, ref_v21_right]

theorem ref_v31 (i : Fin 2) (h : Fin 8) (n : Fin 4096) (d : Fin 32) :
    val_main_v31 (F := Ideal) Q C K V Wg bg (ix4 i h n d)
      = gate Wg bg (fun k => C (ix3 i n (col h k))) (fun k => val_main_v18 (F := Ideal) Q K V (ix4 i h n k)) d := by
  pointwise [val_main_v31, val_main_v30, val_main_v29, val_main_v28, val_main_v27, val_main_v26, val_main_v25, val_main_v24, val_main_v23, val_main_cst_4, val_main_cst_5]
  rw [ref_v22]
  rfl

/-- One entry of the mix of the refined and the coarse attention, with the position encoding. -/
def mix (g ro co pe : EReal) : EReal := g * ro + (1 - g) * co + pe

theorem ref_v39 (i : Fin 2) (n : Fin 4096) (h : Fin 8) (d : Fin 32) :
    val_main_v39 (F := Ideal) Q C P K V Wg bg (ix3 i n (col h d))
      = mix (val_main_v31 (F := Ideal) Q C K V Wg bg (ix4 i h n d)) (val_main_v18 (F := Ideal) Q K V (ix4 i h n d)) (C (ix3 i n (col h d)))
          (P (ix3 i n (col h d))) := by
  have e : val_main_v38 (F := Ideal) Q C K V Wg bg (ix3 i n (col h d)) = val_main_v36 (F := Ideal) Q C K V Wg bg (ix4 i h n d) := by
    generalize hR : val_main_v36 (F := Ideal) Q C K V Wg bg = R
    unfold val_main_v38 val_main_v37
    rw [hR]
    pointwise []
    blk_ext
  show val_main_v38 (F := Ideal) Q C K V Wg bg (ix3 i n (col h d)) + P (ix3 i n (col h d)) = _
  rw [e]
  generalize hG : val_main_v31 (F := Ideal) Q C K V Wg bg = G
  generalize hR : val_main_v18 (F := Ideal) Q K V = R
  unfold val_main_v36 val_main_v35 val_main_v34 val_main_v32
  rw [hG, hR, mix, ← ref_v20 C i h n d]
  generalize val_main_v20 (F := Ideal) C = S
  pointwise [val_main_v33, val_main_cst_6, Ideal.ofBits_one_f32]

theorem ref_v46 (i : Fin 2) (o : Fin 256) (n : Fin 4096) :
    val_main_v46 (F := Ideal) Q C P K V Wg bg Wp bp (ix3 i o n)
      = (∑ k, Wp (ix4 o k 0 0) * val_main_v39 (F := Ideal) Q C P K V Wg bg (ix3 i n k)) + bp (ix1 o) := by
  generalize hR : val_main_v39 (F := Ideal) Q C P K V Wg bg = R
  unfold val_main_v46 val_main_v42 val_main_v41
  rw [hR]
  pointwise [val_main_v40, val_main_v43, val_main_v44, val_main_v45]

end Cert.FineRefIdeal.Val

end
-- ==== Proof.FineSum.lean ====
module

public import proofs.«01_k».proof.Proof.FineHost
public import proofs.«01_k».proof.Proof.FineRef
public import proofs.«01_k».proof.Proof.MainReal

/-! Sums over all heads' rows and columns that have terms for one head only. -/

@[expose] public section

noncomputable section

namespace Cert.FineIdeal.Val

open Idealize.ShloMosaic
open Cert.FineRefIdeal.Val (row col)
open Cert.MainIdeal.Val (IsReal coe_sum_real shift)

theorem sum_col (f : Fin 256 → EReal) : ∑ k, f k = ∑ g : Fin 8, ∑ e : Fin 32, f (col g e) :=
  ((Fintype.sum_equiv (finProdFinEquiv : Fin 8 × Fin 32 ≃ Fin 256) (fun p => f (col p.1 p.2)) f
    fun p => congrArg f (Fin.ext (Nat.add_comm _ _))).symm).trans (Fintype.sum_prod_type _)

theorem sum_row (f : Fin 128 → EReal) : ∑ k, f k = ∑ g : Fin 8, ∑ m : Fin 16, f (row g m) :=
  ((Fintype.sum_equiv (finProdFinEquiv : Fin 8 × Fin 16 ≃ Fin 128) (fun p => f (row p.1 p.2)) f
    fun p => congrArg f (Fin.ext (Nat.add_comm _ _))).symm).trans (Fintype.sum_prod_type _)

/-- A sum over all columns with terms in one head's columns only. -/
theorem sum_col_one (f : Fin 256 → EReal) (h : Fin 8) (hf : ∀ g e, g ≠ h → f (col g e) = 0) : ∑ k, f k = ∑ e : Fin 32, f (col h e) := by
  rw [sum_col]
  exact Finset.sum_eq_single h (fun g _ n => Finset.sum_eq_zero fun e _ => hf g e n) fun n => absurd (Finset.mem_univ h) n

/-- A sum over all selected rows with terms in one head's rows only. -/
theorem sum_row_one (f : Fin 128 → EReal) (h : Fin 8) (hf : ∀ g e, g ≠ h → f (row g e) = 0) : ∑ k, f k = ∑ m : Fin 16, f (row h m) := by
  rw [sum_row]
  exact Finset.sum_eq_single h (fun g _ n => Finset.sum_eq_zero fun e _ => hf g e n) fun n => absurd (Finset.mem_univ h) n

theorem col_div (h : Fin 8) (e : Fin 32) : (col h e).val / 32 = h.val := by
  change (32 * h.val + e.val) / 32 = h.val
  omega

theorem col_mod (h : Fin 8) (e : Fin 32) : (col h e).val % 32 = e.val := by
  change (32 * h.val + e.val) % 32 = e.val
  omega

theorem row_div (h : Fin 8) (e : Fin 16) : (row h e).val / 16 = h.val := by
  change (16 * h.val + e.val) / 16 = h.val
  omega

theorem same_one (h : Fin 8) : same h.val h.val = 1 := if_pos rfl
theorem same_zero {g h : Fin 8} (n : g ≠ h) : same g.val h.val = 0 := if_neg fun e => n (Fin.ext e)

/-- The refined attention over all rows and columns is the softmax over one head's own, shifted by any real number. -/
theorem refine_eq (q : Fin 256 → EReal) (tk tv ob : Fin 128 → Fin 256 → EReal) (h : Fin 8) (d : Fin 32) (M : EReal)
    (hq : ∀ e, IsReal (q e)) (hk : ∀ j e, IsReal (tk j e)) (hv : ∀ j e, IsReal (tv j e)) (hM : IsReal M)
    (zk : ∀ h m g e, g ≠ h → tk (row h m) (col g e) = 0) (zv : ∀ h m g e, g ≠ h → tv (row h m) (col g e) = 0)
    (hob : ∀ j o, ob j o = same (j.val / 16) (o.val / 32)) :
    refine1 q tk tv ob (col h d)
      = ∑ m : Fin 16, Ideal.div (Ideal.exp ((∑ e, q (col h e) * tk (row h m) (col h e)) - M))
          (∑ m : Fin 16, Ideal.exp ((∑ e, q (col h e) * tk (row h m) (col h e)) - M)) * tv (row h m) (col h d) := by
  have w : ∀ m, weight q tk (row h m) = Ideal.exp (∑ e, q (col h e) * tk (row h m) (col h e)) := fun m => by
    unfold weight
    rw [sum_col_one _ h fun g e n => by rw [zk h m g e n, mul_zero]]
  unfold refine1
  rw [sum_row_one (fun j => weight q tk j * tv j (col h d)) h fun g e n => by rw [zv g e h d n.symm, mul_zero],
    sum_row_one (fun j => weight q tk j * ob j (col h d)) h fun g e n => by rw [hob, row_div, col_div, same_zero n, mul_zero]]
  have one : ∀ m, ob (row h m) (col h d) = 1 := fun m => by rw [hob, row_div, col_div, same_one]
  simp only [w, one, mul_one]
  obtain ⟨N, rfl⟩ := hM
  choose q' hq' using hq
  choose k' hk' using hk
  choose v' hv' using hv
  simp only [hq', hk', hv', ← EReal.coe_mul, ← coe_sum_real]
  exact (shift (fun m : Fin 16 => ∑ e, q' (col h e) * k' (row h m) (col h e)) (fun m => v' (row h m) (col h d)) N).symm

/-- One dot of the gate over all columns is the dot over one head's own. -/
theorem gate_sum (x : Fin 256 → EReal) (w : Fin 256 → Fin 256 → EReal) (W : Fin 32 → EReal) (h : Fin 8) (d : Fin 32)
    (hw : ∀ g k, w (col g k) (col h d) = same g.val h.val * W k) :
    ∑ k, x k * w k (col h d) = ∑ k, x (col h k) * W k := by
  rw [sum_col_one _ h fun g e n => by rw [hw, same_zero n, zero_mul, mul_zero]]
  simp only [hw, same_one, one_mul]

end Cert.FineIdeal.Val

end
-- ==== Proof.FineResults.lean ====
module

public import proofs.«01_k».proof.Proof.FineSum
public import proofs.«01_k».proof.Proof.MainResults
public import proofs.«01_k».proof.Proof.Gen.Pre_selected3

/-! The result array of the fine attention is that of its reference. -/

@[expose] public section

set_option maxRecDepth 16384

noncomputable section

namespace Cert.FineIdeal.Val

open Idealize.ShloMosaic Idealize.ShloMosaic.TcCoe Idealize.SL.Sem
open Cert.FineIdeal Cert.FineIdeal.Gen
open Cert.FineRefIdeal.Read (val_main_v9 val_main_v18 val_main_v31 val_main_v39 val_main_v46)
open Cert.FineRefIdeal.Val (row col own score gate mix ref_v9 ref_v18 ref_v31 ref_v39 ref_v46)
open Cert.MainIdeal.Val (IsReal fold_max_real all_real)

/-- The queries and the selected rows are finite, and a selected row is zero outside its own head's columns. -/
structure Selected (Q : FVec Ideal S2x4096x256 .f32) (K V : FVec Ideal S2x128x256 .f32) : Prop where
  q : ∀ i, IsReal (Q i)
  k : ∀ i, IsReal (K i)
  v : ∀ i, IsReal (V i)
  zk : ∀ i h m g e, g ≠ h → K (ix3 i (row h m) (col g e)) = 0
  zv : ∀ i h m g e, g ≠ h → V (ix3 i (row h m) (col g e)) = 0

theorem off_zero {t u : Shape} {axes : List (Fin (⟨5, ![2, 8, 16, 8, 32]⟩ : Shape).rank)} [Subsingleton t.Idx] (K : FVec Ideal S2x128x256 .f32)
    (hc : S2x128x256.ShapeCasts ⟨5, ![2, 8, 16, 8, 32]⟩) (b : IVec ⟨5, ![2, 8, 16, 8, 32]⟩ 1)
    (hb : ∀ i h m g e, g ≠ h → b (ix5 i h m g e) = 0#1) (z : FVec Ideal ⟨5, ![2, 8, 16, 8, 32]⟩ .f32) (hz : ∀ i, z i = 0)
    (init : u.Idx → BitVec 1) (hr : (⟨5, ![2, 8, 16, 8, 32]⟩ : Shape).ReducesTo axes t) (hu : 0 < u.numel) (j : t.Idx)
    (e : Host.reduce IntOp.andi (ori b (cmpf .oeq (shapeCast ⟨5, ![2, 8, 16, 8, 32]⟩ K hc) z)) init hr hu j = 1#1)
    (i : Fin 2) (h : Fin 8) (m : Fin 16) (g : Fin 8) (x : Fin 32) (n : g ≠ h) : K (ix3 i (row h m) (col g x)) = 0 := by
  have h1 : IntOp.ori (b (ix5 i h m g x)) (Ideal.cmp .oeq (shapeCast ⟨5, ![2, 8, 16, 8, 32]⟩ K hc (ix5 i h m g x)) (z (ix5 i h m g x))) = 1#1 :=
    Host.reduce_andi_all _ init hr hu j e (ix5 i h m g x)
  have e1 : shapeCast ⟨5, ![2, 8, 16, 8, 32]⟩ K hc (ix5 i h m g x) = K (ix3 i (row h m) (col g x)) := by
    pointwise []
    blk_ext
  rw [hb i h m g x n, hz, e1] at h1
  by_contra hn
  simp [Ideal.cmp, IntOp.ori, hn] at h1

theorem eq_bit : ∀ h g : Fin 8, g ≠ h → IntOp.cmpi CmpIPredicate.eq (BitVec.ofNat 32 h.val) (BitVec.ofNat 32 g.val) = 0#1 := by decide +kernel

theorem selected (Q C P : FVec Ideal S2x4096x256 .f32) (K V : FVec Ideal S2x128x256 .f32) (Wg : FVec Ideal S32x64 .f32) (bg : FVec Ideal S32 .f32)
    (Wp : FVec Ideal S256x256x1x1 .f32) (bp : FVec Ideal S256 .f32) (h : Cert.Pre_selected3.fn (F := Ideal) Q C P K V Wg bg Wp bp = fun _ => 1#1) :
    Selected Q K V := by
  have : Subsingleton Cert.Pre_selected3.S_.Idx := ⟨fun a b => funext fun k => k.elim0⟩
  have h0 := congrFun h (fun k => k.elim0)
  unfold Cert.Pre_selected3.fn Cert.Pre_selected3.fn_part1 at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  refine ⟨all_real Q _ (fun _ => rfl) _ _ _ _ e0, all_real K _ (fun _ => rfl) _ _ _ _ e1, all_real V _ (fun _ => rfl) _ _ _ _ e3,
    off_zero K _ _ (fun i h m g e n => ?_) _ (fun _ => Ideal.ofBits_zero_f32) _ _ _ _ e2,
    off_zero V _ _ (fun i h m g e n => ?_) _ (fun _ => Ideal.ofBits_zero_f32) _ _ _ _ e4⟩
  · exact eq_bit h g n
  · exact eq_bit h g n

variable (Q C P : FVec Ideal S2x4096x256 .f32) (K V : FVec Ideal S2x128x256 .f32) (Wg : FVec Ideal S32x64 .f32) (bg : FVec Ideal S32 .f32)
  (Wp : FVec Ideal S256x256x1x1 .f32) (bp : FVec Ideal S256 .f32)

theorem own_eq (K : FVec Ideal S2x128x256 .f32) (z : ∀ i h m g e, g ≠ h → K (ix3 i (row h m) (col g e)) = 0) (i : Fin 2) (h : Fin 8) (m : Fin 16) (e : Fin 32) :
    own K i h m e = K (ix3 i (row h m) (col h e)) :=
  Finset.sum_eq_single h (fun g _ n => z i h m g e n) fun n => absurd (Finset.mem_univ h) n

theorem ro_eq (S : Selected Q K V) (q : FVec Ideal S1x1024x256 .f32) (tk tv : FVec Ideal S1x128x256 .f32) (ob : FVec Ideal S128x256 .f32) (i : Fin 2) (n : Fin 4096)
    (r : Fin 1024) (hq : ∀ e, q (ix3 0 r e) = Q (ix3 i n e)) (hk : ∀ j e, tk (ix3 0 j e) = K (ix3 i j e)) (hv : ∀ j e, tv (ix3 0 j e) = V (ix3 i j e))
    (ho : ∀ j o, ob (ix2 j o) = same (j.val / 16) (o.val / 32)) (h : Fin 8) (d : Fin 32) :
    k0_pay3 (F := Ideal) q tk tv ob (ix2 r (col h d)) = val_main_v18 (F := Ideal) Q K V (ix4 i h n d) := by
  have hM : IsReal (val_main_v9 (F := Ideal) Q K (ix3 i h n)) := by
    rw [ref_v9]
    refine fold_max_real _ fun m => IsReal.sum fun e => (S.q _).mul ?_
    rw [own_eq K S.zk]
    exact S.k _
  refine (ro_at q tk tv ob r (col h d)).trans ?_
  simp only [hq, hk, hv]
  refine (refine_eq (fun e => Q (ix3 i n e)) (fun j e => K (ix3 i j e)) (fun j e => V (ix3 i j e)) _ h d (val_main_v9 (F := Ideal) Q K (ix3 i h n))
    (fun _ => S.q _) (fun _ _ => S.k _) (fun _ _ => S.v _) hM (S.zk i) (S.zv i) ho).trans ?_
  rw [ref_v18]
  simp only [score, own_eq K S.zk, own_eq V S.zv]

theorem gate_eq (S : Selected Q K V) (q co : FVec Ideal S1x1024x256 .f32) (tk tv : FVec Ideal S1x128x256 .f32) (ob : FVec Ideal S128x256 .f32)
    (bc br : FVec Ideal S256x256 .f32) (b : FVec Ideal S1x256 .f32) (i : Fin 2) (n : Fin 4096)
    (r : Fin 1024) (hq : ∀ e, q (ix3 0 r e) = Q (ix3 i n e)) (hk : ∀ j e, tk (ix3 0 j e) = K (ix3 i j e)) (hv : ∀ j e, tv (ix3 0 j e) = V (ix3 i j e))
    (ho : ∀ j o, ob (ix2 j o) = same (j.val / 16) (o.val / 32)) (hco : ∀ e, co (ix3 0 r e) = C (ix3 i n e))
    (hbc : ∀ k o : Fin 256, bc (ix2 k o) = same (k.val / 32) (o.val / 32) * Wg (ix2 ⟨o.val % 32, Nat.mod_lt _ (by decide)⟩ ⟨k.val % 32, by have := Nat.mod_lt k.val (show 0 < 32 by decide); omega⟩))
    (hbr : ∀ k o : Fin 256, br (ix2 k o) = same (k.val / 32) (o.val / 32) * Wg (ix2 ⟨o.val % 32, Nat.mod_lt _ (by decide)⟩ ⟨32 + k.val % 32, by have := Nat.mod_lt k.val (show 0 < 32 by decide); omega⟩))
    (hb : ∀ o : Fin 256, b (ix2 0 o) = bg (ix1 ⟨o.val % 32, Nat.mod_lt _ (by decide)⟩)) (h : Fin 8) (d : Fin 32) :
    k0_pay4 (F := Ideal) q co tk tv ob bc br b (ix2 r (col h d)) = val_main_v31 (F := Ideal) Q C K V Wg bg (ix4 i h n d) := by
  refine (gate_at q co tk tv ob bc br b r (col h d)).trans ?_
  have eC := gate_sum (fun k => co (ix3 0 r k)) (fun k o => bc (ix2 k o)) (fun k => Wg (ix2 d ⟨k.val, by omega⟩)) h d fun g k => by
    rw [hbc, col_div, col_div]
    exact congrArg (fun x => same g.val h.val * Wg x) (by blk_ext)
  have eR := gate_sum (fun k => k0_pay3 (F := Ideal) q tk tv ob (ix2 r k)) (fun k o => br (ix2 k o)) (fun k => Wg (ix2 d ⟨32 + k.val, by omega⟩)) h d fun g k => by
    rw [hbr, col_div, col_div]
    exact congrArg (fun x => same g.val h.val * Wg x) (by blk_ext)
  refine (congrArg₂ (fun x y => Ideal.logistic (x + y + b (ix2 0 (col h d)))) eC eR).trans ?_
  rw [ref_v31]
  simp only [ro_eq Q K V S q tk tv ob i n r hq hk hv ho, hco, hb]
  unfold gate
  exact congrArg (fun x => Ideal.logistic (_ + _ + bg x)) (by blk_ext)

theorem out_eq (S : Selected Q K V) (q co pe : FVec Ideal S1x1024x256 .f32) (tk tv : FVec Ideal S1x128x256 .f32) (ob : FVec Ideal S128x256 .f32)
    (bc br : FVec Ideal S256x256 .f32) (b : FVec Ideal S1x256 .f32) (pw : FVec Ideal S256x256 .f32) (pb : FVec Ideal S1x256 .f32) (i : Fin 2) (n : Fin 4096)
    (r : Fin 1024) (hq : ∀ e, q (ix3 0 r e) = Q (ix3 i n e)) (hk : ∀ j e, tk (ix3 0 j e) = K (ix3 i j e)) (hv : ∀ j e, tv (ix3 0 j e) = V (ix3 i j e))
    (ho : ∀ j o, ob (ix2 j o) = same (j.val / 16) (o.val / 32)) (hco : ∀ e, co (ix3 0 r e) = C (ix3 i n e))
    (hpe : ∀ e, pe (ix3 0 r e) = P (ix3 i n e))
    (hbc : ∀ k o : Fin 256, bc (ix2 k o) = same (k.val / 32) (o.val / 32) * Wg (ix2 ⟨o.val % 32, Nat.mod_lt _ (by decide)⟩ ⟨k.val % 32, by have := Nat.mod_lt k.val (show 0 < 32 by decide); omega⟩))
    (hbr : ∀ k o : Fin 256, br (ix2 k o) = same (k.val / 32) (o.val / 32) * Wg (ix2 ⟨o.val % 32, Nat.mod_lt _ (by decide)⟩ ⟨32 + k.val % 32, by have := Nat.mod_lt k.val (show 0 < 32 by decide); omega⟩))
    (hb : ∀ o : Fin 256, b (ix2 0 o) = bg (ix1 ⟨o.val % 32, Nat.mod_lt _ (by decide)⟩)) (hpw : ∀ o k, pw (ix2 o k) = Wp (ix4 o k 0 0))
    (hpb : ∀ o, pb (ix2 0 o) = bp (ix1 o)) (o : Fin 256) :
    out0_11 (F := Ideal) q co pe tk tv ob bc br b pw pb (ix3 0 o r) = val_main_v46 (F := Ideal) Q C P K V Wg bg Wp bp (ix3 i o n) := by
  refine (out_at q co pe tk tv ob bc br b pw pb o r).trans ?_
  rw [ref_v46, hpb]
  refine congrArg (· + bp (ix1 o)) (Finset.sum_congr rfl fun k _ => ?_)
  obtain ⟨h, d, rfl⟩ : ∃ (h : Fin 8) (d : Fin 32), k = col h d := ⟨⟨k.val / 32, by omega⟩, ⟨k.val % 32, by omega⟩, Fin.ext (Nat.div_add_mod _ _).symm⟩
  rw [hpw, hco, hpe, gate_eq Q C K V Wg bg S q co tk tv ob bc br b i n r hq hk hv ho hco hbc hbr hb, ro_eq Q K V S q tk tv ob i n r hq hk hv ho, ref_v39]
  rfl

variable (m : (ℓ : Loc nD τ sig) → Buf (Elt Ideal) ℓ)

/-- The result array of the kernel is the reference's. -/
theorem res (c : Dev nD) (hpre : Cert.Pre_selected3.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) = fun _ => 1#1) :
    val_main_v46 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8))
      = (dats m 0 c).arrAt 11 (cfgs 0).N := by
  have S := selected _ _ _ _ _ _ _ _ _ hpre
  symm
  refine (dats m 0 c).arrAt_eq_of_covers 11 _ (by decide +kernel) fun t _ y => ?_
  blk_simp
  rw [after0_11]
  obtain ⟨o, r, rfl⟩ : ∃ (o : Fin 256) (r : Fin 1024), y = ix3 0 o r := ⟨y 1, y 2, by blk_ext⟩
  refine (out_eq _ _ _ _ _ _ _ _ _ S _ _ _ _ _ _ _ _ _ _ _ (im t) (px t r) r (blk_q m c t r) (blk_tk m c t) (blk_tv m c t) (blk_ob m c t) (blk_co m c t r)
    (blk_pe m c t r) (blk_bc m c t) (blk_br m c t) (blk_gb m c t) (blk_pw m c t) (blk_pb m c t) o).trans ?_
  have e : (win0_11.blk t).view.emb (ix3 0 o r) = ix3 (im t) o (px t r) := by blk_ext [idx t]
  rw [e]

end Cert.FineIdeal.Val

end
-- ==== Proof.lean ====
/- The claims about the main call and the fine attention, put together from the modules under Proof/. -/
module

public import proofs.«01_k».proof.Defs
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.MainRefIdeal
public import proofs.«01_k».proof.Proof.Gen.MainRefIdeal.Run
public import proofs.«01_k».proof.Proof.Gen.MainRefIdeal.Read
public import proofs.«01_k».proof.Proof.Gen.Fine
public import proofs.«01_k».proof.Proof.Gen.Fine.Skeleton
public import proofs.«01_k».proof.Proof.Gen.Fine.Launch
public import proofs.«01_k».proof.Proof.Gen.Fine.Points
public import proofs.«01_k».proof.Proof.Gen.Fine.Frame
public import proofs.«01_k».proof.Proof.Gen.FineIdeal
public import proofs.«01_k».proof.Proof.Gen.FineIdeal.Skeleton
public import proofs.«01_k».proof.Proof.Gen.FineIdeal.Launch
public import proofs.«01_k».proof.Proof.Gen.FineIdeal.Points
public import proofs.«01_k».proof.Proof.Gen.FineIdeal.Frame
public import proofs.«01_k».proof.Proof.Gen.FineIdeal.Value
public import proofs.«01_k».proof.Proof.Gen.FineRefIdeal
public import proofs.«01_k».proof.Proof.Gen.FineRefIdeal.Run
public import proofs.«01_k».proof.Proof.Gen.FineRefIdeal.Read
public import proofs.«01_k».proof.Proof.Gen.Pre_selected3
public import Idealize.ShloMosaic.Adequacy
public import proofs.«01_k».proof.Proof.Gen.Pre_finite1
public import proofs.«01_k».proof.Proof.MainData
public import proofs.«01_k».proof.Proof.MainFrame
public import proofs.«01_k».proof.Proof.MainResults
public import proofs.«01_k».proof.Proof.FineResults
public import Idealize.ShloMosaic.Lib.Claim
public import Idealize.ShloMosaic.Init

@[expose] public section

noncomputable section

-- The claims about Main, MainIdeal, MainRefIdeal, Fine, FineIdeal, FineRefIdeal also say that every semaphore counter ends at zero.

namespace Cert.Proof

open Idealize.ShloMosaic Idealize.SL.Sem Cert.Main

/-- The reference program returns and leaves its arguments as it found them. -/
theorem refFrame : @Cert.quiescent_MainRefIdeal Cert.MainRefIdeal.Gen.facts := fun m ρ _ =>
  (θ_run Cert.MainRefIdeal.defs _ _).mono (fun r h => ⟨fun c => (h c).2.2.2.2.2.2,
      Idealize.ShloMosaic.sem_eq_zero_of_no_sems (by decide) r.2⟩)
    (Cert.MainRefIdeal.Value.run (F := Ideal) m ρ)

/-- The kernel ends with its six arrays at the named contents and its arguments unchanged. -/
theorem kernelRun (m : (ℓ : Loc Cert.MainIdeal.nD Cert.MainIdeal.τ Cert.MainIdeal.sig) → Buf (Elt Ideal) ℓ) (g : Dev Cert.MainIdeal.nD → PrngReg) :
    θ_run (Cert.MainIdeal.defs (F := Ideal)) (onTc (τ := Cert.MainIdeal.τ) (Cert.MainIdeal.main (F := Ideal))) ⟨m, fun _ => 0, g⟩ (fun r => ∀ c : Dev Cert.MainIdeal.nD,
      r.2.mem ((c.tc : Thread Cert.MainIdeal.nD Cert.MainIdeal.τ).loc Cert.MainIdeal.main_v9_0) = (Cert.MainIdeal.Val.dats m 0 c).arrAt 8 (Cert.MainIdeal.cfgs 0).N
      ∧ r.2.mem ((c.tc : Thread Cert.MainIdeal.nD Cert.MainIdeal.τ).loc Cert.MainIdeal.main_v9_1) = (Cert.MainIdeal.Val.dats m 0 c).arrAt 9 (Cert.MainIdeal.cfgs 0).N
      ∧ r.2.mem ((c.tc : Thread Cert.MainIdeal.nD Cert.MainIdeal.τ).loc Cert.MainIdeal.main_v9_2) = (Cert.MainIdeal.Val.dats m 0 c).arrAt 10 (Cert.MainIdeal.cfgs 0).N
      ∧ r.2.mem ((c.tc : Thread Cert.MainIdeal.nD Cert.MainIdeal.τ).loc Cert.MainIdeal.main_v9_3) = (Cert.MainIdeal.Val.dats m 0 c).arrAt 11 (Cert.MainIdeal.cfgs 0).N
      ∧ r.2.mem ((c.tc : Thread Cert.MainIdeal.nD Cert.MainIdeal.τ).loc Cert.MainIdeal.main_v9_4) = (Cert.MainIdeal.Val.dats m 0 c).arrAt 12 (Cert.MainIdeal.cfgs 0).N
      ∧ r.2.mem ((c.tc : Thread Cert.MainIdeal.nD Cert.MainIdeal.τ).loc Cert.MainIdeal.main_v9_5) = (Cert.MainIdeal.Val.dats m 0 c).arrAt 13 (Cert.MainIdeal.cfgs 0).N
      ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)) :=
  (θ_run (Cert.MainIdeal.defs (F := Ideal)) _ _).mono (fun r h c => ⟨(h.1.1 c).1 8, (h.1.1 c).1 9, (h.1.1 c).1 10, (h.1.1 c).1 11, (h.1.1 c).1 12, (h.1.1 c).1 13,
      h.2.1 c⟩) (θ_run_and (Cert.MainIdeal.Val.run_main m g) (Cert.MainIdeal.Val.frame m g))

/-- The kernel's six results are the reference's, for finite arguments. -/
theorem sameResults : @Cert.algebraic_MainIdeal_MainRefIdeal_pre_finite1 Cert.MainIdeal.Gen.facts Cert.MainRefIdeal.Gen.facts Cert.Pre_finite1.Gen.facts := by
  intro m g m' g' hpre hagree
  refine ⟨fun c => (Cert.MainIdeal.Val.dats m 0 c).arrAt 8 (Cert.MainIdeal.cfgs 0).N, fun c => (Cert.MainIdeal.Val.dats m 0 c).arrAt 9 (Cert.MainIdeal.cfgs 0).N,
    fun c => (Cert.MainIdeal.Val.dats m 0 c).arrAt 10 (Cert.MainIdeal.cfgs 0).N, fun c => (Cert.MainIdeal.Val.dats m 0 c).arrAt 11 (Cert.MainIdeal.cfgs 0).N,
    fun c => (Cert.MainIdeal.Val.dats m 0 c).arrAt 12 (Cert.MainIdeal.cfgs 0).N, fun c => (Cert.MainIdeal.Val.dats m 0 c).arrAt 13 (Cert.MainIdeal.cfgs 0).N,
    kernelRun m g, ?_⟩
  refine (θ_run (Cert.MainRefIdeal.defs (F := Ideal)) _ _).mono (fun r h c => ?_) (Cert.MainRefIdeal.Value.run (F := Ideal) m' g')
  obtain ⟨a0, a1, a2, a3, a4, a5, a6, a7⟩ := hagree c
  exact ⟨(h c).1.trans ((Cert.MainRefIdeal.Read.val_main_v131_eq _ _ _).trans (by rw [a0, a2, a3]; exact Cert.MainIdeal.Val.res0 m c)),
    (h c).2.1.trans ((Cert.MainRefIdeal.Read.val_main_v11_eq _ _ _).trans (by rw [a0, a4, a5]; exact Cert.MainIdeal.Val.res1 m c)),
    (h c).2.2.1.trans ((Cert.MainRefIdeal.Read.val_main_v16_eq _ _ _).trans (by rw [a1, a4, a5]; exact Cert.MainIdeal.Val.res2 m c)),
    (h c).2.2.2.1.trans ((Cert.MainRefIdeal.Read.val_main_v135_eq _ _ _).trans (by rw [a0, a2, a3]; exact Cert.MainIdeal.Val.res3 m c)),
    (h c).2.2.2.2.1.trans ((Cert.MainRefIdeal.Read.val_main_v41_eq m' c).trans (by rw [a0, a1, a2, a3, a4, a5]; exact Cert.MainIdeal.Val.res4 m c (hpre c))),
    (h c).2.2.2.2.2.1.trans ((Cert.MainRefIdeal.Read.val_main_v129_eq m' c).trans (by rw [a1, a4, a5, a6, a7]; exact Cert.MainIdeal.Val.res5 m c)),
    (h c).2.2.2.2.2.2⟩

/-- The fine attention's reference returns and leaves its arguments as it found them. -/
theorem fineRefFrame : @Cert.quiescent_FineRefIdeal Cert.FineRefIdeal.Gen.facts := fun m ρ _ =>
  (θ_run Cert.FineRefIdeal.defs _ _).mono (fun r h => ⟨fun c => (h c).2,
      Idealize.ShloMosaic.sem_eq_zero_of_no_sems (by decide) r.2⟩)
    (Cert.FineRefIdeal.Value.run (F := Ideal) m ρ)

/-- The fine attention's result is the reference's, for finite queries and finite selected rows laid out per head. -/
theorem fineSame : @Cert.algebraic_FineIdeal_FineRefIdeal_pre_selected3 Cert.FineIdeal.Gen.facts Cert.FineRefIdeal.Gen.facts Cert.Pre_selected3.Gen.facts := by
  intro m g m' g' hpre hagree
  refine ⟨fun c => (Cert.FineIdeal.Gen.dats m 0 c).arrAt 11 (Cert.FineIdeal.cfgs 0).N, Cert.FineIdeal.Value.run_blocks m g, ?_⟩
  refine (θ_run (Cert.FineRefIdeal.defs (F := Ideal)) _ _).mono (fun r h c => ?_) (Cert.FineRefIdeal.Value.run (F := Ideal) m' g')
  obtain ⟨a0, a1, a2, a3, a4, a5, a6, a7, a8⟩ := hagree c
  exact ⟨(h c).1.trans ((Cert.FineRefIdeal.Read.val_main_v46_eq m' c).trans (by
    rw [a0, a1, a2, a3, a4, a5, a6, a7, a8]
    exact Cert.FineIdeal.Val.res m c (hpre c))), (h c).2⟩

theorem claim : Cert.Claim := ⟨Cert.Main.Gen.facts, Cert.MainIdeal.Gen.facts, Cert.MainRefIdeal.Gen.facts, Cert.Fine.Gen.facts, Cert.FineIdeal.Gen.facts,
  Cert.FineRefIdeal.Gen.facts, Cert.Pre_finite1.Gen.facts, Cert.Pre_selected3.Gen.facts,
  fun m ρ _ => Cert.Main.Frm.frame m ρ, fun m ρ _ => Cert.MainIdeal.Val.frame m ρ, fun m ρ _ => Cert.MainIdeal.Val.frame m ρ,
  refFrame, fun m ρ _ => refFrame m ρ trivial,
  fun m ρ _ => Cert.Fine.Gen.frame m ρ, fun m ρ _ => Cert.FineIdeal.Gen.frame m ρ, fun m ρ _ => Cert.FineIdeal.Gen.frame m ρ,
  fineRefFrame, fun m ρ _ => fineRefFrame m ρ trivial,
  trivial, sameResults, trivial, fineSame⟩

end Cert.Proof

end
